-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![32, 256, 512]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v19) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x32 : Shape := ⟨2, ![256, 32]⟩
abbrev S512x1 : Shape := ⟨2, ![512, 1]⟩
abbrev S4x256x512 : Shape := ⟨3, ![4, 256, 512]⟩
abbrev S512x512 : Shape := ⟨2, ![512, 512]⟩
abbrev S3 : Shape := ⟨1, ![3]⟩
abbrev S_ : Shape := ⟨0, ![]⟩
abbrev S512x32 : Shape := ⟨2, ![512, 32]⟩
abbrev S512 : Shape := ⟨1, ![512]⟩
abbrev S512x64 : Shape := ⟨2, ![512, 64]⟩
abbrev S64x256 : Shape := ⟨2, ![64, 256]⟩
abbrev S16x256 : Shape := ⟨2, ![16, 256]⟩
abbrev S1x256x512 : Shape := ⟨3, ![1, 256, 512]⟩
abbrev S256x512 : Shape := ⟨2, ![256, 512]⟩
abbrev S16x512 : Shape := ⟨2, ![16, 512]⟩
abbrev S1 : Shape := ⟨1, ![1]⟩
abbrev S64x512 : Shape := ⟨2, ![64, 512]⟩
abbrev S128x512 : Shape := ⟨2, ![128, 512]⟩

abbrev nBuf : Space → Nat
  | .hbm => 5
  | .vmem => 5
  | .smem => 0
  | _ => 0

abbrev bufTy : (tb : Table) → Fin (tcTables nBuf tb) → BufTy
  | .hbm, ⟨0, _⟩ => ⟨S512x256, .bf16⟩
  | .hbm, ⟨1, _⟩ => ⟨S256x32, .bf16⟩
  | .hbm, ⟨2, _⟩ => ⟨S512x1, .i32⟩
  | .hbm, ⟨3, _⟩ => ⟨S4x256x512, .bf16⟩
  | .hbm, ⟨4, _⟩ => ⟨S512x512, .bf16⟩
  | .local _ .vmem, ⟨0, _⟩ => ⟨S512x256, .bf16⟩
  | .local _ .vmem, ⟨1, _⟩ => ⟨S512x1, .i32⟩
  | .local _ .vmem, ⟨2, _⟩ => ⟨S4x256x512, .bf16⟩
  | .local _ .vmem, ⟨3, _⟩ => ⟨S512x512, .bf16⟩
  | .local _ .vmem, ⟨4, _⟩ => ⟨S512x512, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v10 : BitVec 32 := Scalar.xori v2 c2_i32
  let c1_i32_7 : BitVec 32 := 1#32
  let v14 : BitVec 32 := Scalar.muli v10 c1_i32_7
  let v15 : BitVec 32 := Scalar.addi c0_i32 v14
  v15.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v11 : BitVec 32 := Scalar.xori v2 c1_i32_4
  let c1_i32_9 : BitVec 32 := 1#32
  let v16 : BitVec 32 := Scalar.muli v11 c1_i32_9
  let v17 : BitVec 32 := Scalar.addi c0_i32_10 v16
  v17.toNat
def k0_dev3 (d0 : Dev nD) : Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v12 : BitVec 32 := Scalar.xori v2 c4_i32_5
  let c1_i32_12 : BitVec 32 := 1#32
  let v18 : BitVec 32 := Scalar.muli v12 c1_i32_12
  let v19 : BitVec 32 := Scalar.addi c0_i32_13 v18
  v19.toNat
def k0_off1 (d0 : Dev nD) (c0_i32_34 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let c1_i32_2 : BitVec 32 := 1#32
  let v5 : BitVec 32 := Scalar.andi v2 c1_i32_2
  let c1_i32_3 : BitVec 32 := 1#32
  let v6 : BitVec 32 := Scalar.shli v5 c1_i32_3
  let v7 : BitVec 32 := Scalar.ori v4 v6
  let c4_i32 : BitVec 32 := 4#32
  let v8 : BitVec 32 := Scalar.andi v2 c4_i32
  let v9 : BitVec 32 := Scalar.ori v7 v8
  let c64_i32_33 : BitVec 32 := 64#32
  let v93 : BitVec 32 := Scalar.muli v9 c64_i32_33
  let v94 : BitVec 32 := Scalar.addi v93 c0_i32_34
  let v95 : Index := Scalar.indexCast v94
  let c0_35 : Index := 0#32
  ![v95.toNat, 0]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let c1_i32_2 : BitVec 32 := 1#32
  let v5 : BitVec 32 := Scalar.andi v2 c1_i32_2
  let c1_i32_3 : BitVec 32 := 1#32
  let v6 : BitVec 32 := Scalar.shli v5 c1_i32_3
  let v7 : BitVec 32 := Scalar.ori v4 v6
  let c4_i32 : BitVec 32 := 4#32
  let v8 : BitVec 32 := Scalar.andi v2 c4_i32
  let v9 : BitVec 32 := Scalar.ori v7 v8
  let c0_i32_52 : BitVec 32 := 0#32
  let v132 : BitVec 32 := Scalar.shrsi v9 c0_i32_52
  let c0_i32_53 : BitVec 32 := 0#32
  let v133 : BitVec 32 := Scalar.shli v132 c0_i32_53
  let c64_i32_54 : BitVec 32 := 64#32
  let v134 : BitVec 32 := Scalar.muli v133 c64_i32_54
  let c0_i32_66 : BitVec 32 := 0#32
  ![v134.toNat, 0]
def k0_dev4 (d0 : Dev nD) : Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v10 : BitVec 32 := Scalar.xori v2 c2_i32
  let c1_i32_64 : BitVec 32 := 1#32
  let v141 : BitVec 32 := Scalar.muli v10 c1_i32_64
  let v142 : BitVec 32 := Scalar.addi c0_i32_65 v141
  v142.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let c1_i32_2 : BitVec 32 := 1#32
  let v5 : BitVec 32 := Scalar.andi v2 c1_i32_2
  let c1_i32_3 : BitVec 32 := 1#32
  let v6 : BitVec 32 := Scalar.shli v5 c1_i32_3
  let v7 : BitVec 32 := Scalar.ori v4 v6
  let c4_i32 : BitVec 32 := 4#32
  let v8 : BitVec 32 := Scalar.andi v2 c4_i32
  let v9 : BitVec 32 := Scalar.ori v7 v8
  let c1_i32_55 : BitVec 32 := 1#32
  let v135 : BitVec 32 := Scalar.shrsi v9 c1_i32_55
  let c1_i32_56 : BitVec 32 := 1#32
  let v136 : BitVec 32 := Scalar.shli v135 c1_i32_56
  let c64_i32_57 : BitVec 32 := 64#32
  let v137 : BitVec 32 := Scalar.muli v136 c64_i32_57
  let c0_i32_79 : BitVec 32 := 0#32
  ![v137.toNat, 0]
def k0_dev5 (d0 : Dev nD) : Nat :=
  let c0_i32_78 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v11 : BitVec 32 := Scalar.xori v2 c1_i32_4
  let c1_i32_77 : BitVec 32 := 1#32
  let v165 : BitVec 32 := Scalar.muli v11 c1_i32_77
  let v166 : BitVec 32 := Scalar.addi c0_i32_78 v165
  v166.toNat
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let c1_i32_2 : BitVec 32 := 1#32
  let v5 : BitVec 32 := Scalar.andi v2 c1_i32_2
  let c1_i32_3 : BitVec 32 := 1#32
  let v6 : BitVec 32 := Scalar.shli v5 c1_i32_3
  let v7 : BitVec 32 := Scalar.ori v4 v6
  let c4_i32 : BitVec 32 := 4#32
  let v8 : BitVec 32 := Scalar.andi v2 c4_i32
  let v9 : BitVec 32 := Scalar.ori v7 v8
  let c2_i32_58 : BitVec 32 := 2#32
  let v138 : BitVec 32 := Scalar.shrsi v9 c2_i32_58
  let c2_i32_59 : BitVec 32 := 2#32
  let v139 : BitVec 32 := Scalar.shli v138 c2_i32_59
  let c64_i32_60 : BitVec 32 := 64#32
  let v140 : BitVec 32 := Scalar.muli v139 c64_i32_60
  let c0_i32_91 : BitVec 32 := 0#32
  ![v140.toNat, 0]
def k0_dev6 (d0 : Dev nD) : Nat :=
  let c0_i32_90 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v12 : BitVec 32 := Scalar.xori v2 c4_i32_5
  let c1_i32_89 : BitVec 32 := 1#32
  let v179 : BitVec 32 := Scalar.muli v12 c1_i32_89
  let v180 : BitVec 32 := Scalar.addi c0_i32_90 v179
  v180.toNat
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S512x256 : Shape := ⟨2, ![512, 256]⟩
abbrev S256x32 : Shape := ⟨2, ![256, 32]⟩
abbrev S512x1 : Shape := ⟨2, ![512, 1]⟩
abbrev S32x256x512 : Shape := ⟨3, ![32, 256, 512]⟩
abbrev S32 : Shape := ⟨1, ![32]⟩
abbrev S1x32 : Shape := ⟨2, ![1, 32]⟩
abbrev S512x32 : Shape := ⟨2, ![512, 32]⟩
abbrev S_ : Shape := ⟨0, ![]⟩
abbrev S512x32x512 : Shape := ⟨3, ![512, 32, 512]⟩
abbrev S512x32x1 : Shape := ⟨3, ![512, 32, 1]⟩
abbrev S512x512 : Shape := ⟨2, ![512, 512]⟩

abbrev nBuf : Space → Nat
  | .hbm => 33
  | .vmem => 0
  | .smem => 0
  | _ => 0

abbrev bufTy : (tb : Table) → Fin (tcTables nBuf tb) → BufTy
  | .hbm, ⟨0, _⟩ => ⟨S512x256, .bf16⟩
  | .hbm, ⟨1, _⟩ => ⟨S256x32, .bf16⟩
  | .hbm, ⟨2, _⟩ => ⟨S512x1, .i32⟩
  | .hbm, ⟨3, _⟩ => ⟨S32x256x512, .bf16⟩
  | .hbm, ⟨4, _⟩ => ⟨S32, .i32⟩
  | .hbm, ⟨5, _⟩ => ⟨S1x32, .i32⟩
  | .hbm, ⟨6, _⟩ => ⟨S512x32, .i32⟩
  | .hbm, ⟨7, _⟩ => ⟨S512x32, .i32⟩
  | .hbm, ⟨8, _⟩ => ⟨S512x32, .i1⟩
  | .hbm, ⟨9, _⟩ => ⟨S512x32, .i32⟩
  | .hbm, ⟨10, _⟩ => ⟨S_, .i32⟩
  | .hbm, ⟨11, _⟩ => ⟨S_, .i32⟩
  | .hbm, ⟨12, _⟩ => ⟨S512x32, .i32⟩
  | .hbm, ⟨13, _⟩ => ⟨S512x32, .i32⟩
  | .hbm, ⟨14, _⟩ => ⟨S_, .i32⟩
  | .hbm, ⟨15, _⟩ => ⟨S512x32, .i32⟩
  | .hbm, ⟨16, _⟩ => ⟨S512x32, .i1⟩
  | .hbm, ⟨17, _⟩ => ⟨S_, .i32⟩
  | .hbm, ⟨18, _⟩ => ⟨S512x32, .i32⟩
  | .hbm, ⟨19, _⟩ => ⟨S512x32, .i1⟩
  | .hbm, ⟨20, _⟩ => ⟨S512x32, .i1⟩
  | .hbm, ⟨21, _⟩ => ⟨S512x256, .f32⟩
  | .hbm, ⟨22, _⟩ => ⟨S32x256x512, .f32⟩
  | .hbm, ⟨23, _⟩ => ⟨S512x32x512, .f32⟩
  | .hbm, ⟨24, _⟩ => ⟨S512x32x1, .i1⟩
  | .hbm, ⟨25, _⟩ => ⟨S_, .f32⟩
  | .hbm, ⟨26, _⟩ => ⟨S_, .f32⟩
  | .hbm, ⟨27, _⟩ => ⟨S512x32x512, .i1⟩
  | .hbm, ⟨28, _⟩ => ⟨S512x32x512, .f32⟩
  | .hbm, ⟨29, _⟩ => ⟨S512x32x512, .f32⟩
  | .hbm, ⟨30, _⟩ => ⟨S_, .f32⟩
  | .hbm, ⟨31, _⟩ => ⟨S512x512, .f32⟩
  | .hbm, ⟨32, _⟩ => ⟨S512x512, .bf16⟩
  | _, _ => ⟨S512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_call0_c : Ref sig .tc := ⟨.hbm, 10, rfl⟩
abbrev main_call0_call0_v0 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩

abbrev nD : Nat := 1
abbrev τ : Topo := Topo.v7x

variable {F : FTy → Type} [FloatOps F]
-- ==== Proof.Exchange.lean ====
/-
# Exchange: who talks to whom, which rows move, and what they hold

Eight devices, numbered `c`. Each owns one block of 64 rows of the 512-row buffer; the block's number `place c` is
`c` with its two lowest bits exchanged, so the partners `c xor 2`, `c xor 1`, `c xor 4` of the three exchange rounds sit
at block distance 1, 2 and 4. Before round `r` a device holds the `2^r` blocks that agree with its own above bit `r`
(`held r c`), sends all of them to its partner and receives the partner's. After the three rounds every device holds
the same 512 rows, the array `gathered`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.Pointwise.ShapeOpsCore
public import Idealize.ShloMosaic.Lib.Tactic

@[expose] public section

set_option maxRecDepth 16384

noncomputable section

namespace Cert.Moe

open Cert.KernelIdeal Cert.KernelIdeal.Gen

open Idealize.ShloMosaic
open Idealize.ShloMosaic.TcCoe

variable {F : FTy → Type} [FloatOps F]

/-! ## Partners and places -/

/-- The number of the block device `c` owns; applied to a block number, the device that owns it. -/
def place (c : Dev nD) : Dev nD := ⟨c.val / 2 % 2 + 2 * (c.val % 2) + 4 * (c.val / 4), by
  have h : c.val < 8 := c.isLt
  show _ < 8
  omega⟩

/-- The partner of device `c` in exchange round `r`. -/
def mate : Fin 3 → Dev nD → Dev nD
  | 0, c => ⟨c.val ^^^ 2, by revert c; decide⟩
  | 1, c => ⟨c.val ^^^ 1, by revert c; decide⟩
  | 2, c => ⟨c.val ^^^ 4, by revert c; decide⟩

theorem place_place (c : Dev nD) : place (place c) = c := by revert c; decide
theorem mate_mate (r : Fin 3) (c : Dev nD) : mate r (mate r c) = c := by revert r c; decide
theorem mate_eq_iff (r : Fin 3) (c d : Dev nD) : mate r c = d ↔ c = mate r d :=
  ⟨fun h => by rw [← h, mate_mate], fun h => by rw [h, mate_mate]⟩

def swap (r : Fin 3) : Dev nD ≃ Dev nD := ⟨mate r, mate r, mate_mate r, mate_mate r⟩

theorem dev1_eq (c : Dev nD) : (⟨k0_dev1 c, k0_dev1_lt c⟩ : Dev nD) = mate 0 c := Fin.ext (by revert c; decide +kernel)
theorem dev2_eq (c : Dev nD) : (⟨k0_dev2 c, k0_dev2_lt c⟩ : Dev nD) = mate 1 c := Fin.ext (by revert c; decide +kernel)
theorem dev3_eq (c : Dev nD) : (⟨k0_dev3 c, k0_dev3_lt c⟩ : Dev nD) = mate 2 c := Fin.ext (by revert c; decide +kernel)
theorem dev4_eq (c : Dev nD) : (⟨k0_dev4 c, k0_dev4_lt c⟩ : Dev nD) = mate 0 c := Fin.ext (by revert c; decide +kernel)
theorem dev5_eq (c : Dev nD) : (⟨k0_dev5 c, k0_dev5_lt c⟩ : Dev nD) = mate 1 c := Fin.ext (by revert c; decide +kernel)
theorem dev6_eq (c : Dev nD) : (⟨k0_dev6 c, k0_dev6_lt c⟩ : Dev nD) = mate 2 c := Fin.ext (by revert c; decide +kernel)

/-! ## Row sets -/

/-- The entries of the 512-row buffer in rows `lo` to `lo + n - 1`. -/
def rows (lo n : ℕ) : Finset S512x512.Idx := Finset.univ.filter fun i => lo ≤ (i 0).val ∧ (i 0).val < lo + n

theorem mem_rows {lo n : ℕ} {i : S512x512.Idx} : i ∈ rows lo n ↔ lo ≤ (i 0).val ∧ (i 0).val < lo + n := by
  unfold rows; rw [Finset.mem_filter]; exact ⟨fun h => h.2, fun h => ⟨Finset.mem_univ _, h⟩⟩

/-- First row and number of rows device `c` holds before exchange round `r`. -/
def first : Fin 3 → Dev nD → ℕ
  | 0, c => 64 * (place c).val
  | 1, c => 128 * ((place c).val / 2)
  | 2, c => 256 * ((place c).val / 4)
def count : Fin 3 → ℕ
  | 0 => 64
  | 1 => 128
  | 2 => 256

/-- The rows device `c` holds before exchange round `r`, and sends in it. -/
def held (r : Fin 3) (c : Dev nD) : Finset S512x512.Idx := rows (first r c) (count r)

theorem mem_held {r : Fin 3} {c : Dev nD} {i : S512x512.Idx} : i ∈ held r c ↔ first r c ≤ (i 0).val ∧ (i 0).val < first r c + count r := mem_rows

/-- Two adjacent groups of rows: disjoint, and together the group of twice the size. -/
theorem pair_cases (c : Dev nD) :
    (first 1 c = min (first 0 c) (first 0 (mate 0 c)) ∧ (first 0 c + 64 = first 0 (mate 0 c) ∨ first 0 (mate 0 c) + 64 = first 0 c))
    ∧ (first 2 c = min (first 1 c) (first 1 (mate 1 c)) ∧ (first 1 c + 128 = first 1 (mate 1 c) ∨ first 1 (mate 1 c) + 128 = first 1 c))
    ∧ (0 = min (first 2 c) (first 2 (mate 2 c)) ∧ (first 2 c + 256 = first 2 (mate 2 c) ∨ first 2 (mate 2 c) + 256 = first 2 c)) := by
  revert c; decide

theorem held_disjoint (r : Fin 3) (c : Dev nD) : Disjoint (held r c) (held r (mate r c)) := by
  have h := pair_cases c
  rw [Finset.disjoint_left]
  intro i h1 h2
  rw [mem_held] at h1 h2
  match r with
  | 0 => simp only [count] at h1 h2; omega
  | 1 => simp only [count] at h1 h2; omega
  | 2 => simp only [count] at h1 h2; omega

theorem held_one (c : Dev nD) : held 1 c = held 0 c ∪ held 0 (mate 0 c) := by
  have h := pair_cases c
  ext i
  rw [Finset.mem_union, mem_held, mem_held, mem_held]
  simp only [count]; omega
theorem held_two (c : Dev nD) : held 2 c = held 1 c ∪ held 1 (mate 1 c) := by
  have h := pair_cases c
  ext i
  rw [Finset.mem_union, mem_held, mem_held, mem_held]
  simp only [count]; omega
theorem held_all (c : Dev nD) : (Finset.univ : Finset S512x512.Idx) = held 2 c ∪ held 2 (mate 2 c) := by
  have h := pair_cases c
  ext i
  have hi : (i 0).val < 512 := (i 0).isLt
  rw [Finset.mem_union, mem_held, mem_held]
  simp only [count]
  refine ⟨fun _ => ?_, fun _ => Finset.mem_univ _⟩
  omega

/-! ## The buffer and its slices -/

abbrev gM : Memref sig .tc .vmem S512x512 .bf16 := Memref.whole cc0_scratch0

/-- The slice of the buffer that round `r`'s transfer of device `c` reads, and writes on the partner. -/
abbrev sl0 (c : Dev nD) : Memref sig .tc .vmem S64x512 .bf16 :=
  gM.slice (Rect.unit (s := S512x512) (k0_off2 c) S64x512.size (k0_off2_inb c)) (fun _ => rfl)
abbrev sl1 (c : Dev nD) : Memref sig .tc .vmem S128x512 .bf16 :=
  gM.slice (Rect.unit (s := S512x512) (k0_off3 c) S128x512.size (k0_off3_inb c)) (fun _ => rfl)
abbrev sl2 (c : Dev nD) : Memref sig .tc .vmem S256x512 .bf16 :=
  gM.slice (Rect.unit (s := S512x512) (k0_off4 c) S256x512.size (k0_off4_inb c)) (fun _ => rfl)

theorem off1_eq (c : Dev nD) (r : Fin 4) : k0_off1 c (BitVec.ofNat 32 (16 * r.val)) 0 = 64 * (place c).val + 16 * r.val
    ∧ k0_off1 c (BitVec.ofNat 32 (16 * r.val)) 1 = 0 := by revert c r; decide +kernel
theorem off2_eq (c : Dev nD) : k0_off2 c 0 = first 0 c ∧ k0_off2 c 1 = 0 := by revert c; decide +kernel
theorem off3_eq (c : Dev nD) : k0_off3 c 0 = first 1 c ∧ k0_off3 c 1 = 0 := by revert c; decide +kernel
theorem off4_eq (c : Dev nD) : k0_off4 c 0 = first 2 c ∧ k0_off4 c 1 = 0 := by revert c; decide +kernel

/-- A rectangle of full rows, as a set of entries. -/
theorem rows_of_unit (off size : Fin S512x512.rank → ℕ) (inb : ∀ a, off a + size a ≤ S512x512.size a) (h1 : off 1 = 0) (h2 : size 1 = 512) :
    (Rect.unit (s := S512x512) off size inb).set = rows (off 0) (size 0) := by
  ext i
  rw [Rect.mem_set_unit, mem_rows]
  refine ⟨fun h => h 0, fun h a => ?_⟩
  have hi : (i 1).val < 512 := (i 1).isLt
  match a with
  | 0 => exact h
  | 1 => rw [h1, h2]; exact ⟨Nat.zero_le _, by omega⟩

theorem sl0_set (c : Dev nD) : (sl0 c).view.set = held 0 c := by
  show ((View.whole cc0_scratch0).slice _).set = _
  rw [View.set_slice_whole]
  exact (rows_of_unit _ _ _ (off2_eq c).2 rfl).trans (by rw [(off2_eq c).1]; rfl)
theorem sl1_set (c : Dev nD) : (sl1 c).view.set = held 1 c := by
  show ((View.whole cc0_scratch0).slice _).set = _
  rw [View.set_slice_whole]
  exact (rows_of_unit _ _ _ (off3_eq c).2 rfl).trans (by rw [(off3_eq c).1]; rfl)
theorem sl2_set (c : Dev nD) : (sl2 c).view.set = held 2 c := by
  show ((View.whole cc0_scratch0).slice _).set = _
  rw [View.set_slice_whole]
  exact (rows_of_unit _ _ _ (off4_eq c).2 rfl).trans (by rw [(off4_eq c).1]; rfl)

/-! ## What the rows hold -/

/-- The device's own number and its block's number, as the words the kernel computes. -/
abbrev ownWord (c : Dev nD) : BitVec 32 := Scalar.remsi (Scalar.divsi (Dev.word c) 1#32) 8#32
abbrev placeWord (c : Dev nD) : BitVec 32 :=
  Scalar.ori (Scalar.ori (Scalar.andi (Scalar.shrsi (ownWord c) 1#32) 1#32) (Scalar.shli (Scalar.andi (ownWord c) 1#32) 1#32)) (Scalar.andi (ownWord c) 4#32)

theorem ownWord_eq (c : Dev nD) : ownWord c = BitVec.ofNat 32 c.val := by revert c; decide +kernel
theorem placeWord_eq (c : Dev nD) : placeWord c = BitVec.ofNat 32 (place c).val := by revert c; decide +kernel

theorem lowHalf_iff (c : Dev nD) : Scalar.cmpi .ne (Scalar.extui (Scalar.cmpi .slt (placeWord c) 4#32) : BitVec 32) 0#32 = 1#1 ↔ (place c).val < 4 := by
  revert c; decide +kernel
theorem highHalf_iff (c : Dev nD) : Scalar.cmpi .ne (Scalar.extui (Scalar.cmpi .sge (placeWord c) 4#32) : BitVec 32) 0#32 = 1#1 ↔ ¬ (place c).val < 4 := by
  revert c; decide +kernel

/-- The capacity, twelve tokens per expert. -/
abbrev cap : F .f32 := Scalar.ofBits .f32 0x41400000#32

section Contents
variable (x : Vec F S512x256 .bf16) (e : Vec F S512x1 .i32) (w : Fin 4 → Vec F S1x256x512 .bf16)

/-- Which tokens device `c` computes, and at which of its 64 rows. -/
def atRow (c : Dev nD) : IVec S512x64 1 := k0_pay8 (placeWord c) (k0_pay1 e) (k0_pay2 (F := F) e) (k0_pay3 e) cap
def mine (c : Dev nD) : IVec S512x64 1 := k0_pay9 (ownWord c) (k0_pay1 e) (k0_pay2 (F := F) e) (k0_pay3 e) cap

/-- The 16 rows device `c` computes for its `l`-th expert. -/
def piece (c : Dev nD) : Fin 4 → FVec F S16x512 .bf16
  | 0 => k0_pay11 (atRow e c) (mine e c) x (w 0)
  | 1 => k0_pay12 (atRow e c) (mine e c) x (w 1)
  | 2 => k0_pay14 (k0_pay13 (atRow e c) (mine e c) x (w 2))
  | 3 => k0_pay15 (k0_pay10 (atRow e c) (mine e c) x) (w 3)

/-- The 64 rows device `c` computes. -/
def block (c : Dev nD) (s : Fin 64) (h : Fin 512) : Elt F .bf16 :=
  piece x e w c ⟨s.val / 16, by have := s.isLt; omega⟩ (ix2 (⟨s.val % 16, Nat.mod_lt _ (by decide)⟩ : Fin 16) h)

/-- The rows each token's result is read off, one mark per token. -/
def marks : FVec F S512x512 .bf16 :=
  k0_pay16 (k0_pay5 (k0_pay2 e) (k0_pay3 e) cap) (k0_pay7 (k0_pay1 e) (k0_pay2 (F := F) e) (k0_pay3 e) cap)

end Contents

variable (m : (ℓ : Loc nD τ sig) → Buf (Elt F) ℓ)

/-- What device `c` is handed: the tokens, their experts, its four experts' matrices. -/
def tokens (c : Dev nD) : (cc0_stg0_0 : Ref sig .tc).ty.Contents (Elt F) :=
  (win0_0.blk (0 : Fin 1)).view.read (Elt F) (m ((c : Thread nD τ).loc main_arg0))
def experts (c : Dev nD) : (cc0_stg1_0 : Ref sig .tc).ty.Contents (Elt F) :=
  (win0_1.blk (0 : Fin 1)).view.read (Elt F) (m ((c : Thread nD τ).loc main_arg2))
def mats (c : Dev nD) : (cc0_stg2_0 : Ref sig .tc).ty.Contents (Elt F) :=
  (win0_2.blk (0 : Fin 1)).view.read (Elt F) (m ((c : Thread nD τ).loc main_arg3))

abbrev wM : Memref sig .tc .vmem S4x256x512 .bf16 := Memref.whole cc0_stg2_0

/-- The matrix of device `c`'s `l`-th expert, as it is loaded. -/
def mat (c : Dev nD) : Fin 4 → Vec F S1x256x512 .bf16
  | 0 => wM.view.readAt (Elt F) (Rect.unit (s := S4x256x512) ![0, 0, 0] S1x256x512.size inb_S4x256x512_S1x256x512_0_0_0).toLoadRect (mats m c)
  | 1 => wM.view.readAt (Elt F) (Rect.unit (s := S4x256x512) ![1, 0, 0] S1x256x512.size inb_S4x256x512_S1x256x512_1_0_0).toLoadRect (mats m c)
  | 2 => wM.view.readAt (Elt F) (Rect.unit (s := S4x256x512) ![2, 0, 0] S1x256x512.size inb_S4x256x512_S1x256x512_2_0_0).toLoadRect (mats m c)
  | 3 => wM.view.readAt (Elt F) (Rect.unit (s := S4x256x512) ![3, 0, 0] S1x256x512.size inb_S4x256x512_S1x256x512_3_0_0).toLoadRect (mats m c)

/-- The `l`-th group of 16 rows device `c` stores. -/
def stored (c : Dev nD) (l : Fin 4) : FVec F S16x512 .bf16 := piece (tokens m c) (experts m c) (mat m c) c l

/-- The 512 rows every device ends up with. -/
def gathered : Vec F S512x512 .bf16 := fun i =>
  block (tokens m (place ⟨(i 0).val / 64, by have h : (i 0).val < 512 := (i 0).isLt; show _ < 8; omega⟩))
    (experts m (place ⟨(i 0).val / 64, by have h : (i 0).val < 512 := (i 0).isLt; show _ < 8; omega⟩))
    (mat m (place ⟨(i 0).val / 64, by have h : (i 0).val < 512 := (i 0).isLt; show _ < 8; omega⟩))
    (place ⟨(i 0).val / 64, by have h : (i 0).val < 512 := (i 0).isLt; show _ < 8; omega⟩)
    ⟨(i 0).val % 64, Nat.mod_lt _ (by decide)⟩ (i 1)

/-- A row of the block of device `c`. -/
theorem gathered_at (c : Dev nD) (l : Fin 4) (i : S512x512.Idx) (h1 : 64 * (place c).val + 16 * l.val ≤ (i 0).val)
    (h2 : (i 0).val < 64 * (place c).val + 16 * l.val + 16) :
    gathered m i = stored m c l (ix2 (⟨(i 0).val - (64 * (place c).val + 16 * l.val), by omega⟩ : Fin 16) (i 1)) := by
  have hl : l.val < 4 := l.isLt
  have hp : (place c).val < 8 := (place c).isLt
  have hb : (i 0).val - (64 * (place c).val + 16 * l.val) < 16 := by omega
  have key : ∀ (d : Dev nD) (s : Fin 64) (j : Fin 16), d = c → s.val = 16 * l.val + j.val →
      block (tokens m d) (experts m d) (mat m d) d s (i 1) = stored m c l (ix2 j (i 1)) := by
    intro d s j hd hs
    subst hd
    unfold block stored
    have hj : j.val < 16 := j.isLt
    have e1 : (⟨s.val / 16, by have := s.isLt; omega⟩ : Fin 4) = l := Fin.ext (by show s.val / 16 = l.val; omega)
    have e2 : (⟨s.val % 16, Nat.mod_lt _ (by decide)⟩ : Fin 16) = j := Fin.ext (by show s.val % 16 = j.val; omega)
    rw [e1, e2]
  unfold gathered
  refine key _ _ ⟨_, hb⟩ ?_ ?_
  · have : (⟨(i 0).val / 64, by have h : (i 0).val < 512 := (i 0).isLt; show _ < 8; omega⟩ : Dev nD) = place c :=
      Fin.ext (by show (i 0).val / 64 = _; omega)
    rw [this, place_place]
  · show (i 0).val % 64 = 16 * l.val + ((i 0).val - (64 * (place c).val + 16 * l.val)); omega

/-- Sixteen full rows replaced, entry by entry. -/
theorem update_rows (f : Vec F S512x512 .bf16) (v : FVec F S16x512 .bf16) (off : Fin 2 → ℕ) (hs : S512x512.Slices off S16x512) (n : ℕ)
    (o0 : off 0 = n) (o1 : off 1 = 0) (i : S512x512.Idx) :
    updateSlice f v off hs i
      = if h : n ≤ (i 0).val ∧ (i 0).val < n + 16 then v (ix2 (⟨(i 0).val - n, by omega⟩ : Fin 16) (i 1)) else f i := by
  have hi : (i 1).val < 512 := (i 1).isLt
  rw [updateSlice_apply]
  by_cases h : n ≤ (i 0).val ∧ (i 0).val < n + 16
  · have hin : ∀ a : Fin 2, off a ≤ (i a).val ∧ (i a).val < off a + S16x512.size a := by
      intro a
      match a with
      | 0 => rw [o0]; exact h
      | 1 => rw [o1]; exact ⟨Nat.zero_le _, by show (i 1).val < 0 + 512; omega⟩
    refine (dif_pos hin).trans (Eq.trans ?_ (dif_pos h).symm)
    refine congrArg v ?_
    funext b
    match b with
    | 0 => exact Fin.ext (by show (i 0).val - off 0 = (i 0).val - n; rw [o0])
    | 1 => exact Fin.ext (by show (i 1).val - off 1 = (i 1).val; rw [o1]; rfl)
  · rw [dif_neg h]
    refine dif_neg fun hin => h ?_
    have := hin (0 : Fin 2)
    rw [o0] at this
    exact this

/-- One store of 16 rows, entry by entry. -/
theorem store_apply (c : Dev nD) (l : Fin 4) (f : (cc0_scratch0 : Ref sig .tc).ty.Contents (Elt F)) (v : FVec F S16x512 .bf16) (i : S512x512.Idx) :
    (gM.access (Rect.unit (s := S512x512) (k0_off1 c (BitVec.ofNat 32 (16 * l.val))) S16x512.size (k0_off1_inb c l)) : View sig .tc _ _ _).write (Elt F) f v Finset.univ i
      = if h : 64 * (place c).val + 16 * l.val ≤ (i 0).val ∧ (i 0).val < 64 * (place c).val + 16 * l.val + 16
        then v (ix2 (⟨(i 0).val - (64 * (place c).val + 16 * l.val), by omega⟩ : Fin 16) (i 1)) else f i :=
  (congrFun (View.write_whole_slice_unit cc0_scratch0 (k0_off1 c (BitVec.ofNat 32 (16 * l.val))) S16x512.size (k0_off1_inb c l) f v) i).trans
    (update_rows f v _ _ _ (off1_eq c l).1 (off1_eq c l).2 i)

/-- After its four stores device `c`'s own rows hold what `gathered` says. -/
theorem own_rows (c : Dev nD) (f : (cc0_scratch0 : Ref sig .tc).ty.Contents (Elt F)) (f1 f2 f3 f4 : (cc0_scratch0 : Ref sig .tc).ty.Contents (Elt F))
    (h1 : f1 = (gM.access (Rect.unit (s := S512x512) (k0_off1 c 0#32) S16x512.size (k0_off1_inb c 0)) : View sig .tc _ _ _).write (Elt F) f (stored m c 0) Finset.univ)
    (h2 : f2 = (gM.access (Rect.unit (s := S512x512) (k0_off1 c 16#32) S16x512.size (k0_off1_inb c 1)) : View sig .tc _ _ _).write (Elt F) f1 (stored m c 1) Finset.univ)
    (h3 : f3 = (gM.access (Rect.unit (s := S512x512) (k0_off1 c 32#32) S16x512.size (k0_off1_inb c 2)) : View sig .tc _ _ _).write (Elt F) f2 (stored m c 2) Finset.univ)
    (h4 : f4 = (gM.access (Rect.unit (s := S512x512) (k0_off1 c 48#32) S16x512.size (k0_off1_inb c 3)) : View sig .tc _ _ _).write (Elt F) f3 (stored m c 3) Finset.univ) :
    ∀ i ∈ held 0 c, f4 i = gathered m i := by
  intro i hi
  rw [mem_held] at hi
  simp only [first, count] at hi
  have e4 := (congrFun h4 i).trans (store_apply c 3 f3 (stored m c 3) i)
  have e3 := (congrFun h3 i).trans (store_apply c 2 f2 (stored m c 2) i)
  have e2 := (congrFun h2 i).trans (store_apply c 1 f1 (stored m c 1) i)
  have e1 := (congrFun h1 i).trans (store_apply c 0 f (stored m c 0) i)
  have g (l : Fin 4) := gathered_at m c l i
  have v0 : (0 : Fin 4).val = 0 := rfl
  have v1 : (1 : Fin 4).val = 1 := rfl
  have v2 : (2 : Fin 4).val = 2 := rfl
  have v3 : (3 : Fin 4).val = 3 := rfl
  by_cases c3 : 64 * (place c).val + 16 * (3 : Fin 4).val ≤ (i 0).val
  · rw [e4, dif_pos ⟨c3, by omega⟩, g 3 c3 (by omega)]
  rw [e4, dif_neg (fun h => c3 h.1)]
  by_cases c2 : 64 * (place c).val + 16 * (2 : Fin 4).val ≤ (i 0).val
  · rw [e3, dif_pos ⟨c2, by omega⟩, g 2 c2 (by omega)]
  rw [e3, dif_neg (fun h => c2 h.1)]
  by_cases c1 : 64 * (place c).val + 16 * (1 : Fin 4).val ≤ (i 0).val
  · rw [e2, dif_pos ⟨c1, by omega⟩, g 1 c1 (by omega)]
  rw [e2, dif_neg (fun h => c1 h.1), e1, dif_pos ⟨by omega, by omega⟩, g 0 (by omega) (by omega)]

/-- The rectangle of a store lies in the device's own rows. -/
theorem store_sub (c : Dev nD) (l : Fin 4) :
    (Rect.unit (s := S512x512) (k0_off1 c (BitVec.ofNat 32 (16 * l.val))) S16x512.size (k0_off1_inb c l)).set ⊆ held 0 c := by
  intro i hi
  rw [rows_of_unit _ _ _ (off1_eq c l).2 rfl, mem_rows, (off1_eq c l).1] at hi
  have hl : l.val < 4 := l.isLt
  have h16 : S16x512.size 0 = 16 := rfl
  rw [h16] at hi
  rw [mem_held]
  simp only [first, count]; omega

/-! ## The result -/

def lowHalf : Vec F S256x512 .bf16 :=
  gM.view.readAt (Elt F) (Rect.unit (s := S512x512) ![0, 0] S256x512.size inb_S512x512_S256x512_0_0).toLoadRect (gathered m)
def highHalf : Vec F S256x512 .bf16 :=
  gM.view.readAt (Elt F) (Rect.unit (s := S512x512) ![256, 0] S256x512.size inb_S512x512_S256x512_256_0).toLoadRect (gathered m)

/-- The result on device `c`: the half it holds before the last exchange first, then the other half. -/
def result (c : Dev nD) : Vec F S512x512 .bf16 :=
  if (place c).val < 4 then k0_pay19 (marks (experts m c)) (k0_pay17 (marks (experts m c)) (lowHalf m)) (highHalf m)
  else k0_pay20 (marks (experts m c)) (k0_pay18 (marks (experts m c)) (highHalf m)) (lowHalf m)

theorem low_sub (c : Dev nD) (h : (place c).val < 4) :
    (Rect.unit (s := S512x512) ![0, 0] S256x512.size inb_S512x512_S256x512_0_0).set ⊆ held 2 c ∧
    (Rect.unit (s := S512x512) ![256, 0] S256x512.size inb_S512x512_S256x512_256_0).set ⊆ held 2 (mate 2 c) := by
  have hp := pair_cases c
  have hf : first 2 c = 0 := by show 256 * ((place c).val / 4) = 0; omega
  have h256 : S256x512.size 0 = 256 := rfl
  have z0 : (![0, 0] : Fin 2 → ℕ) 0 = 0 := rfl
  have z1 : (![256, 0] : Fin 2 → ℕ) 0 = 256 := rfl
  constructor <;> intro i hi <;> rw [rows_of_unit _ _ _ rfl rfl, mem_rows] at hi <;> rw [mem_held] <;> simp only [count] <;> omega

theorem high_sub (c : Dev nD) (h : ¬ (place c).val < 4) :
    (Rect.unit (s := S512x512) ![256, 0] S256x512.size inb_S512x512_S256x512_256_0).set ⊆ held 2 c ∧
    (Rect.unit (s := S512x512) ![0, 0] S256x512.size inb_S512x512_S256x512_0_0).set ⊆ held 2 (mate 2 c) := by
  have hp := pair_cases c
  have hlt : (place c).val < 8 := (place c).isLt
  have hf : first 2 c = 256 := by show 256 * ((place c).val / 4) = 256; omega
  have h256 : S256x512.size 0 = 256 := rfl
  have z0 : (![0, 0] : Fin 2 → ℕ) 0 = 0 := rfl
  have z1 : (![256, 0] : Fin 2 → ℕ) 0 = 256 := rfl
  constructor <;> intro i hi <;> rw [rows_of_unit _ _ _ rfl rfl, mem_rows] at hi <;> rw [mem_held] <;> simp only [count] <;> omega

end Cert.Moe

end
-- ==== Proof.Schedule.lean ====
/-
# Schedule: the synchronisation protocol of the exchange

Every device has seven cells: the barrier semaphore, three send and three receive semaphores. Each is used for one
round of duties:

* barrier: three duties of one unit, duty `r` paid by the partner of round `r`, who hands over those rows of its own
  buffer that this device will write in round `r`;
* send `r`: one duty of the transfer's credit, paid by the device's own transfer, returning the share of the rows it read;
* receive `r`: one duty of the transfer's credit, paid by the partner's transfer, delivering the rows it wrote.

A device keeps reading and sending rows whose earlier transfer may still be under way, so each transfer is lent only a
share of what it reads.
-/
module

public import proofs.«01_k».proof.Proof.Exchange

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Cells -/

abbrev barS : Sem sig := (SemArray.scalar (sig.barrier 0 rfl) : Sems sig S_).sem
abbrev snd0 : DmaSem sig := ((cc0_scratch1.slice (Rect.unit (s := S3) ![0] S1.size inb_S3_S1_0)).squeeze S_ squeezes_S1_S_).sem
abbrev snd1 : DmaSem sig := ((cc0_scratch1.slice (Rect.unit (s := S3) ![1] S1.size inb_S3_S1_1)).squeeze S_ squeezes_S1_S_).sem
abbrev snd2 : DmaSem sig := ((cc0_scratch1.slice (Rect.unit (s := S3) ![2] S1.size inb_S3_S1_2)).squeeze S_ squeezes_S1_S_).sem
abbrev rcv0 : DmaSem sig := ((cc0_scratch2.slice (Rect.unit (s := S3) ![0] S1.size inb_S3_S1_0)).squeeze S_ squeezes_S1_S_).sem
abbrev rcv1 : DmaSem sig := ((cc0_scratch2.slice (Rect.unit (s := S3) ![1] S1.size inb_S3_S1_1)).squeeze S_ squeezes_S1_S_).sem
abbrev rcv2 : DmaSem sig := ((cc0_scratch2.slice (Rect.unit (s := S3) ![2] S1.size inb_S3_S1_2)).squeeze S_ squeezes_S1_S_).sem

/-- The kernel's own semaphores: send 0, 1, 2, receive 0, 1, 2; -/
abbrev own : Fin 6 → SemLoc sig := fun | 0 => .dma snd0 | 1 => .dma snd1 | 2 => .dma snd2 | 3 => .dma rcv0 | 4 => .dma rcv1 | 5 => .dma rcv2
/-- and with the barrier before them, all seven. -/
abbrev chan : Fin 7 → SemLoc sig := fun | 0 => .reg barS | 1 => .dma snd0 | 2 => .dma snd1 | 3 => .dma snd2 | 4 => .dma rcv0 | 5 => .dma rcv1 | 6 => .dma rcv2
abbrev cell (ck : Dev nD × Fin 7) : GSem nD τ sig := ((ck.1 : Thread nD τ), chan ck.2)

/-- Where the send and the receive semaphore of round `r` stand among the seven. -/
abbrev sendIx : Fin 3 → Fin 7 := fun | 0 => 1 | 1 => 2 | 2 => 3
abbrev recvIx : Fin 3 → Fin 7 := fun | 0 => 4 | 1 => 5 | 2 => 6

theorem chan_injective : Function.Injective chan := by decide

theorem cell_injective : Function.Injective cell := by
  rintro ⟨c, k⟩ ⟨c', k'⟩ h
  have h1 : c = c' := congrArg (fun g : GSem nD τ sig => g.1.1) h
  have h2 : k = k' := chan_injective (congrArg Prod.snd h)
  rw [h1, h2]

/-- Which of the seven a semaphore is. -/
def which (s : SemLoc sig) : Option (Fin 7) := (List.finRange 7).find? fun k => decide (chan k = s)

theorem which_chan (k : Fin 7) : which (chan k) = some k := by revert k; decide

/-! ## Amounts and payloads -/

abbrev credit : Fin 3 → ℕ := fun | 0 => (sl0 0).view.dmaCredit | 1 => (sl1 0).view.dmaCredit | 2 => (sl2 0).view.dmaCredit

theorem credit_pos (r : Fin 3) : 0 < credit r := by
  match r with
  | 0 => exact View.dmaCredit_pos _ (by decide)
  | 1 => exact View.dmaCredit_pos _ (by decide)
  | 2 => exact View.dmaCredit_pos _ (by decide)

abbrev unit : Fin 7 → ℕ := fun | 0 => 1 | 1 => credit 0 | 2 => credit 1 | 3 => credit 2 | 4 => credit 0 | 5 => credit 1 | 6 => credit 2

theorem unit_pos (k : Fin 7) : 0 < unit k := by
  match k with
  | 0 => exact Nat.one_pos
  | 1 => exact credit_pos 0
  | 2 => exact credit_pos 1
  | 3 => exact credit_pos 2
  | 4 => exact credit_pos 0
  | 5 => exact credit_pos 1
  | 6 => exact credit_pos 2

/-- The share of the rows it reads that round `r`'s transfer is lent. -/
abbrev lent : Fin 3 → PosShare TreeShare := fun | 0 => fullShare.left | 1 => fullShare.right.left | 2 => fullShare.right.right.left

/-- The rows `S` of device `c`'s buffer, at share `q`, holding `f`. -/
def buf (c : Dev nD) (S : Finset S512x512.Idx) (q : PosShare TreeShare) (f : (cc0_scratch0 : Ref sig .tc).ty.Contents (Elt F)) : sProp 𝕄 :=
  ((c : Thread nD τ).loc cc0_scratch0) ↦[S]{q} f

omit [FloatOps F] in
instance buf_storable (c : Dev nD) (S q f) : BI.Storable (upEmb : UEmb _ 𝕄) (buf (F := F) c S q f) := by unfold buf; infer_instance

/-- What the duty `r` of device `c`'s `k`-th cell delivers. -/
def load (c : Dev nD) : Fin 7 → Fin 3 → sProp 𝕄
  | 0, r => iprop(∃ f, buf (mate r c) (held r c) fullShare f)
  | 1, _ => buf c (held 0 c) (lent 0) (gathered m)
  | 2, _ => buf c (held 1 c) (lent 1) (gathered m)
  | 3, _ => buf c (held 2 c) (lent 2) (gathered m)
  | 4, _ => buf c (held 0 (mate 0 c)) fullShare (gathered m)
  | 5, _ => buf c (held 1 (mate 1 c)) fullShare (gathered m)
  | 6, _ => buf c (held 2 (mate 2 c)) fullShare (gathered m)

instance load_storable (c : Dev nD) (k : Fin 7) (r : Fin 3) : BI.Storable (upEmb : UEmb _ 𝕄) (load (F := F) m c k r) := by
  match k with
  | 0 => unfold load; infer_instance
  | 1 => unfold load; infer_instance
  | 2 => unfold load; infer_instance
  | 3 => unfold load; infer_instance
  | 4 => unfold load; infer_instance
  | 5 => unfold load; infer_instance
  | 6 => unfold load; infer_instance

/-- The duties of the `k`-th cell. -/
abbrev jobs : Fin 7 → Finset (Fin 3) := fun | 0 => Finset.univ | _ => {0}

/-- The schedule: one round, round 0, of the seven kinds of cells. -/
def plan : Rounds.Schedule (GSem nD τ sig) (Fin 3) 𝕄 where
  duties g n := if n = 0 ∧ g.1.2 = .tc then (match which g.2 with | some k => jobs k | none => ∅) else ∅
  unitless _ := False
  amount g _ _ := match which g.2 with | some k => unit k | none => 1
  payload g _ r := match which g.2 with | some k => load m g.1.1 k r | none => iprop(emp)
  amount_pos g _ _ _ := by
    cases h : which g.2 with
    | none => simp only [h]; exact Nat.one_pos
    | some k => simp only [h]; exact unit_pos k

instance plan_payload_storable (g : GSem nD τ sig) (n : ℕ) (r : Fin 3) : BI.Storable (upEmb : UEmb _ 𝕄) ((plan (F := F) m).payload g n r) := by
  show BI.Storable upEmb (match which g.2 with | some k => load m g.1.1 k r | none => iprop(emp))
  cases which g.2 with
  | none => dsimp only; infer_instance
  | some k => dsimp only; infer_instance

theorem plan_duties (c : Dev nD) (k : Fin 7) : (plan (F := F) m).duties (cell (c, k)) 0 = jobs k := by
  show (if ((0 : ℕ) = 0 ∧ (cell (c, k)).1.2 = Proc.tc) then (match which (chan k) with | some k => jobs k | none => ∅) else ∅) = _
  rw [which_chan]; exact if_pos ⟨rfl, rfl⟩

theorem plan_later (g : GSem nD τ sig) : ∀ n, 1 ≤ n → (plan (F := F) m).duties g n = ∅ :=
  fun n hn => by dsimp only [plan]; rw [if_neg fun h => by omega]

theorem plan_amount (c : Dev nD) (k : Fin 7) (r : Fin 3) : (plan (F := F) m).amount (cell (c, k)) 0 r = unit k := by
  show (match which (chan k) with | some k => unit k | none => 1) = _
  rw [which_chan]

theorem plan_payload (c : Dev nD) (k : Fin 7) (r : Fin 3) : (plan (F := F) m).payload (cell (c, k)) 0 r = load m c k r := by
  show (match which (chan k) with | some k => load m c k r | none => iprop(emp)) = _
  rw [which_chan]

theorem plan_expect_bar (c : Dev nD) : (plan (F := F) m).expect (cell (c, 0)) 0 = 3 := by
  unfold Schedule.expect Schedule.amountOf
  rw [plan_duties, Finset.sum_congr rfl fun d _ => plan_amount m c 0 d]
  rfl
theorem plan_expect (c : Dev nD) (k : Fin 7) (hk : jobs k = {0}) : (plan (F := F) m).expect (cell (c, k)) 0 = unit k := by
  unfold Schedule.expect Schedule.amountOf; rw [plan_duties, hk, Finset.sum_singleton, plan_amount]

/-- All a barrier cell delivers: the rows this device will write, on each of its three partners. -/
theorem plan_rest_bar (c : Dev nD) : bigSep ((plan (F := F) m).duties (cell (c, 0)) 0 \ ∅) (fun d => (plan (F := F) m).payload (cell (c, 0)) 0 d)
    = iprop((∃ f, buf (mate 0 c) (held 0 c) fullShare f) ∗ (∃ f, buf (mate 1 c) (held 1 c) fullShare f) ∗ (∃ f, buf (mate 2 c) (held 2 c) fullShare f)) := by
  rw [Finset.sdiff_empty, plan_duties, show jobs 0 = Finset.univ from rfl, bigSep_univ_eq_bigSepL [0, 1, 2] (by decide) (by decide), bigSepL_cons_cons, bigSepL_cons_cons, bigSepL_singleton,
    plan_payload, plan_payload, plan_payload]
  rfl
/-- All a send or receive cell delivers. -/
theorem plan_rest (c : Dev nD) (k : Fin 7) (hk : jobs k = {0}) :
    bigSep ((plan (F := F) m).duties (cell (c, k)) 0 \ ∅) (fun d => (plan (F := F) m).payload (cell (c, k)) 0 d) = load m c k 0 := by
  rw [Finset.sdiff_empty, plan_duties, hk, bigSep_singleton, plan_payload]

/-! ## What a device owes at launch, and the levels -/

def due2 (c : Dev nD) : CellTallies nD τ sig Unit := tallyAt (cell (mate 2 c, 6)) () (credit 2)
def due1 (c : Dev nD) : CellTallies nD τ sig Unit := due2 c + tallyAt (cell (mate 1 c, 5)) () (credit 1)
/-- After its three signals: the credit of its three transfers, at its partners' receive cells. -/
def due0 (c : Dev nD) : CellTallies nD τ sig Unit := due1 c + tallyAt (cell (mate 0 c, 4)) () (credit 0)
def sig2 (c : Dev nD) : CellTallies nD τ sig Unit := due0 c + tallyAt (cell (mate 2 c, 0)) () 1
def sig1 (c : Dev nD) : CellTallies nD τ sig Unit := sig2 c + tallyAt (cell (mate 1 c, 0)) () 1
/-- At launch: besides, one unit at each partner's barrier cell. -/
def sig0 (c : Dev nD) : CellTallies nD τ sig Unit := sig1 c + tallyAt (cell (mate 0 c, 0)) () 1

def L (g : GSem nD τ sig) : Finset Unit := if g.1.2 = .tc then {()} else ∅
/-- The barrier below the receive cells, those in the order of the rounds, everything else below the barrier. -/
def rank : Fin 7 → ℕ := fun | 0 => 1 | 1 => 0 | 2 => 0 | 3 => 0 | 4 => 2 | 5 => 3 | 6 => 4
def lv (g : GSem nD τ sig) (_ : Unit) : ℕ := match which g.2 with | some k => rank k | none => 0

theorem L_of_ne (g : GSem nD τ sig) (h : g.1.2 ≠ .tc) : L g = ∅ := if_neg h
theorem lv_cell (c : Dev nD) (k : Fin 7) (u : Unit) : lv (cell (c, k)) u = rank k := by
  show (match which (chan k) with | some k => rank k | none => 0) = _
  rw [which_chan]

/-- Everything `O` owes stands at cells of rank above `n`. -/
def Above (n : ℕ) (O : CellTallies nD τ sig Unit) : Prop := ∀ (g : GSem nD τ sig) (u : Unit), 0 < O g u → ∃ (d : Dev nD) (k : Fin 7), g = cell (d, k) ∧ n < rank k

theorem above_zero (n : ℕ) : Above n 0 := fun g u h => absurd h (Nat.lt_irrefl 0)
theorem above_at (n : ℕ) (d : Dev nD) (k : Fin 7) (a : ℕ) (h : n < rank k) : Above n (tallyAt (cell (d, k)) () a) := by
  intro g u hg
  rw [tallyAt_apply] at hg
  by_cases hc : g = cell (d, k) ∧ u = ()
  · exact ⟨d, k, hc.1, h⟩
  · rw [if_neg hc] at hg; exact absurd hg (Nat.lt_irrefl 0)
theorem above_add {n : ℕ} {O O' : CellTallies nD τ sig Unit} (h : Above n O) (h' : Above n O') : Above n (O + O') := by
  intro g u hg
  rw [Pi.add_apply, Finsupp.add_apply] at hg
  rcases Nat.eq_zero_or_pos (O g u) with h0 | h0
  · exact h' g u (by omega)
  · exact h g u h0

theorem above_due2 (c : Dev nD) : Above 3 (due2 c) := above_at _ _ _ _ (by decide)
theorem above_due1 (c : Dev nD) : Above 2 (due1 c) := above_add (above_at _ _ _ _ (by decide)) (above_at _ _ _ _ (by decide))
theorem above_due0 (c : Dev nD) : Above 1 (due0 c) :=
  above_add (above_add (above_at _ _ _ _ (by decide)) (above_at _ _ _ _ (by decide))) (above_at _ _ _ _ (by decide))
theorem above_sig0 (c : Dev nD) : Above 0 (sig0 c) :=
  above_add (above_add (above_add (above_add (above_add (above_at _ _ _ _ (by decide)) (above_at _ _ _ _ (by decide))) (above_at _ _ _ _ (by decide)))
    (above_at _ _ _ _ (by decide))) (above_at _ _ _ _ (by decide))) (above_at _ _ _ _ (by decide))

omit [FloatOps F] in
/-- A device may wait at a cell of rank at most `n` while it owes only above `n`. -/
theorem mayWait (c : Dev nD) (s : SemLoc sig) (n : ℕ) (hs : lv ((c : Thread nD τ), s) () ≤ n) (O : CellTallies nD τ sig Unit) (hO : Above n O) :
    (levAts L lv : sProp 𝕄) ⊢ MayWait (c : Thread nD τ) s () O :=
  MayOwe.of_cut (L := L) (lev := lv) n (fun p hp => by rw [Finset.mem_singleton.mp hp]; exact Finset.mem_singleton_self _)
    (fun g u hg => by obtain ⟨d, k, rfl, -⟩ := hO g u hg; exact Finset.mem_singleton_self _)
    (fun p hp => by rw [Finset.mem_singleton.mp hp]; exact hs)
    (fun g u hg => by obtain ⟨d, k, rfl, hk⟩ := hO g u hg; rw [lv_cell]; exact hk)

omit [FloatOps F] in
theorem mayWait_cell (c : Dev nD) (k : Fin 7) (O : CellTallies nD τ sig Unit) (hO : Above (rank k) O) :
    (levAts L lv : sProp 𝕄) ⊢ MayWait (c : Thread nD τ) (chan k) () O :=
  mayWait c (chan k) (rank k) (le_of_eq (lv_cell c k ())) O hO

end Cert.Moe

end
-- ==== Proof.Steps.lean ====
/-
# Steps: one rule per kind of step the kernel takes

The buffer cut into shares and rows, a signal to a partner, a transfer to a partner, a wait.
-/
module

public import proofs.«01_k».proof.Proof.Schedule

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## Shares and rows -/

section Buffer
variable (c : Dev nD) (f : (cc0_scratch0 : Ref sig .tc).ty.Contents (Elt F))

omit [FloatOps F] in
/-- A share is its two halves. -/
theorem buf_halve (S : Finset S512x512.Idx) (q : PosShare TreeShare) :
    buf c S q f ⊣⊢ (iprop(buf c S q.left f ∗ buf c S q.right f) : sProp 𝕄) :=
  pointsTo_share (PosShare.mem_left_op_right q)

omit [FloatOps F] in
/-- Disjoint rows side by side. -/
theorem buf_union {S T : Finset S512x512.Idx} (h : Disjoint S T) (q : PosShare TreeShare) :
    buf c (S ∪ T) q f ⊣⊢ (iprop(buf c S q f ∗ buf c T q f) : sProp 𝕄) :=
  pointsTo_union h

omit [FloatOps F] in
theorem buf_congr {S : Finset S512x512.Idx} {q : PosShare TreeShare} {g : (cc0_scratch0 : Ref sig .tc).ty.Contents (Elt F)} (h : ∀ i ∈ S, f i = g i) :
    (buf c S q f : sProp 𝕄) = buf c S q g :=
  pointsTo_congr h

omit [FloatOps F] in
/-- The whole buffer: this device's own rows, and for each round the rows its partner of that round will write. -/
theorem buf_deal : (buf c Finset.univ fullShare f : sProp 𝕄)
    ⊢ iprop(buf c (held 0 c) fullShare f ∗ buf c (held 0 (mate 0 c)) fullShare f ∗ buf c (held 1 (mate 1 c)) fullShare f ∗ buf c (held 2 (mate 2 c)) fullShare f) := by
  rw [held_all c]
  iintro H
  ihave H2 := (buf_union c f (held_disjoint 2 c) fullShare).1 $$ H
  icases H2 with ⟨H, H2⟩
  rw [held_two c]
  ihave H1 := (buf_union c f (held_disjoint 1 c) fullShare).1 $$ H
  icases H1 with ⟨H, H1⟩
  rw [held_one c]
  ihave H0 := (buf_union c f (held_disjoint 0 c) fullShare).1 $$ H
  icases H0 with ⟨H, H0⟩
  isplitl [H]; · iexact H
  isplitl [H0]; · iexact H0
  isplitl [H1]; · iexact H1
  iexact H2

omit [FloatOps F] in
/-- After the first arrival: the rows of the second transfer, the share it is lent, the share kept, and what is left of the rows that arrived. -/
theorem buf_join1 : (iprop(buf c (held 0 c) fullShare.right f ∗ buf c (held 0 (mate 0 c)) fullShare f) : sProp 𝕄)
    ⊢ iprop(buf c (held 1 c) (lent 1) f ∗ buf c (held 1 c) fullShare.right.right f ∗ buf c (held 0 (mate 0 c)) fullShare.left f) := by
  iintro ⟨H, H0⟩
  ihave H0' := (buf_halve c f _ _).1 $$ H0
  icases H0' with ⟨Hl, Hr⟩
  ihave HU := (buf_union c f (held_disjoint 0 c) fullShare.right).2 $$ [H Hr]
  · isplitl [H] <;> iassumption
  rw [← held_one c]
  ihave HU' := (buf_halve c f _ _).1 $$ HU
  icases HU' with ⟨Ha, Hb⟩
  isplitl [Ha]; · iexact Ha
  isplitl [Hb]; · iexact Hb
  iexact Hl

omit [FloatOps F] in
/-- After the second arrival, likewise. -/
theorem buf_join2 : (iprop(buf c (held 1 c) fullShare.right.right f ∗ buf c (held 1 (mate 1 c)) fullShare f) : sProp 𝕄)
    ⊢ iprop(buf c (held 2 c) (lent 2) f ∗ buf c (held 2 c) fullShare.right.right.right f
        ∗ buf c (held 1 (mate 1 c)) fullShare.left f ∗ buf c (held 1 (mate 1 c)) fullShare.right.left f) := by
  iintro ⟨H, H0⟩
  ihave H0' := (buf_halve c f _ _).1 $$ H0
  icases H0' with ⟨Hl, Hr⟩
  ihave H1' := (buf_halve c f _ _).1 $$ Hr
  icases H1' with ⟨Hrl, Hrr⟩
  ihave HU := (buf_union c f (held_disjoint 1 c) fullShare.right.right).2 $$ [H Hrr]
  · isplitl [H] <;> iassumption
  rw [← held_two c]
  ihave HU' := (buf_halve c f _ _).1 $$ HU
  icases HU' with ⟨Ha, Hb⟩
  isplitl [Ha]; · iexact Ha
  isplitl [Hb]; · iexact Hb
  isplitl [Hl]; · iexact Hl
  iexact Hrl

omit [FloatOps F] in
/-- All transfers done, the buffer is whole again. -/
theorem buf_gather : (iprop(buf c (held 0 c) (lent 0) f ∗ buf c (held 1 c) (lent 1) f ∗ buf c (held 2 c) (lent 2) f ∗ buf c (held 2 c) fullShare.right.right.right f
      ∗ buf c (held 0 (mate 0 c)) fullShare.left f
      ∗ buf c (held 1 (mate 1 c)) fullShare.left f ∗ buf c (held 1 (mate 1 c)) fullShare.right.left f
      ∗ buf c (held 2 (mate 2 c)) fullShare f) : sProp 𝕄) ⊢ buf c Finset.univ fullShare f := by
  iintro ⟨A0, A1, A2, A3, B0, B1, B1', B2⟩
  ihave A2 := (buf_halve c f _ _).2 $$ [A2 A3]
  · isplitl [A2] <;> iassumption
  ihave A2' := ((Entails.of_eq (congrArg (fun S => (buf c S fullShare.right.right f : sProp 𝕄)) (held_two c))).trans
    (buf_union c f (held_disjoint 1 c) fullShare.right.right).1) $$ A2
  icases A2' with ⟨A2, C1⟩
  ihave A1 := (buf_halve c f _ _).2 $$ [A1 A2]
  · isplitl [A1] <;> iassumption
  ihave A1' := ((Entails.of_eq (congrArg (fun S => (buf c S fullShare.right f : sProp 𝕄)) (held_one c))).trans
    (buf_union c f (held_disjoint 0 c) fullShare.right).1) $$ A1
  icases A1' with ⟨A1, C0⟩
  ihave A0 := (buf_halve c f _ _).2 $$ [A0 A1]
  · isplitl [A0] <;> iassumption
  ihave B0 := (buf_halve c f _ _).2 $$ [B0 C0]
  · isplitl [B0] <;> iassumption
  ihave B1' := (buf_halve c f _ _).2 $$ [B1' C1]
  · isplitl [B1'] <;> iassumption
  ihave B1 := (buf_halve c f _ _).2 $$ [B1 B1']
  · isplitl [B1] <;> iassumption
  ihave U0 := (buf_union c f (held_disjoint 0 c) fullShare).2 $$ [A0 B0]
  · isplitl [A0] <;> iassumption
  ihave U1 := (buf_union c f (show Disjoint (held 0 c ∪ held 0 (mate 0 c)) (held 1 (mate 1 c)) from held_one c ▸ held_disjoint 1 c) fullShare).2 $$ [U0 B1]
  · isplitl [U0] <;> iassumption
  ihave U2 := (buf_union c f (show Disjoint ((held 0 c ∪ held 0 (mate 0 c)) ∪ held 1 (mate 1 c)) (held 2 (mate 2 c)) from by rw [← held_one c, ← held_two c]; exact held_disjoint 2 c) fullShare).2 $$ [U1 B2]
  · isplitl [U1] <;> iassumption
  rw [← held_one c, ← held_two c, ← held_all c]
  iexact U2

end Buffer

/-! ## The cells' standing facts -/

variable (K : Dev nD × Fin 7 → ℕ)

/-- Every cell's invariant, under the names `K`, and that every cell has reached round 0. -/
def records : sProp 𝕄 :=
  iprop((bigSep Finset.univ fun ck : Dev nD × Fin 7 => cellInv ER (plan m) (K ck) (cell ck))
    ∗ bigSep Finset.univ fun ck : Dev nD × Fin 7 => reached ER (cell ck) 0)

instance records_persistent : BI.Persistent (records m K) := by unfold records; infer_instance

theorem records_inv (ck : Dev nD × Fin 7) : records m K ⊢ (cellInv ER (plan m) (K ck) (cell ck) : sProp 𝕄) := by
  unfold records
  exact (BI.Entails.trans BI.sep_and and_elimL).trans (bigSep_elim (Finset.mem_univ ck) (Φ := fun ck : Dev nD × Fin 7 => cellInv ER (plan m) (K ck) (cell ck)))
theorem records_reached (ck : Dev nD × Fin 7) : records m K ⊢ (reached ER (cell ck) 0 : sProp 𝕄) := by
  unfold records
  exact (BI.Entails.trans BI.sep_and and_elimR).trans (bigSep_elim (Finset.mem_univ ck) (Φ := fun ck : Dev nD × Fin 7 => reached ER (cell ck) 0))

/-! ## The steps -/

section Steps
/-- A signal to the partner of round `r`, handing over the rows the partner will write. -/
theorem step_signal {α : Type} {Q : α → sProp 𝕄} {k : PUnit → Prog (TpuEff nD τ sig (Elt F) Λ₀ .tc) α}
    (c n : Dev nD) (r : Fin 3) (hn : n = mate r c) (a : ℕ) (ha : a = 1) (O' O : CellTallies nD τ sig Unit)
    (hO : O' = O + tallyAt (cell (mate r c, 0)) () 1) (f : (cc0_scratch0 : Ref sig .tc).ty.Contents (Elt F)) (W : Waits sig Unit) :
    iprop(records m K ∗ owes (c : Thread nD τ) O' W ∗ dutyTok ER (cell (mate r c, 0)) 0 r ∗ buf c (held r (mate r c)) fullShare f)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS a) k) Q) := by
  subst hn
  subst ha
  iintro ⟨#HI, HO, Ht, Hb⟩
  iapply (Rounds.wp_signal 𝒱₀ ER (plan m) (c : Thread nD τ) none (dst := (mate r c : Thread nD τ)) (κ := K (mate r c, 0)) (r := 0)
      (d := r) (by rw [plan_duties m (mate r c) 0]; exact Finset.mem_univ _) (plan_amount m (mate r c) 0 r) () O hO)
  isplitr; · iapply (records_inv m K (mate r c, 0)); iexact HI
  isplitl [HO]; · iexact HO
  isplitl [Ht]; · iexact Ht
  isplitl [Hb]
  · rw [plan_payload m (mate r c) 0 r]; rw [show load m (mate r c) 0 r = iprop(∃ f, buf (mate r (mate r c)) (held r (mate r c)) fullShare f) from rfl]
    iapply (show (buf c (held r (mate r c)) fullShare f : sProp 𝕄) ⊢ iprop(∃ f, buf (mate r (mate r c)) (held r (mate r c)) fullShare f) by
      rw [mate_mate]; iintro H; iexists f; iexact H)
    iexact Hb
  iapply (records_reached m K (mate r c, 0)); iexact HI

/-- The wait on the device's own barrier cell: the rows of its partners it will write. -/
theorem step_barrier {α : Type} {Q : α → sProp 𝕄} {k : PUnit → Prog (TpuEff nD τ sig (Elt F) Λ₀ .tc) α}
    (c : Dev nD) (a : ℕ) (ha : a = 3) (O : CellTallies nD τ sig Unit) (hO : Above 1 O) (W : Waits sig Unit) :
    iprop(records m K ∗ levAts L lv ∗ cred (tallyAt (cell (c, 0)) () 3) ∗ owes (c : Thread nD τ) O W ∗ atPos ER (cell (c, 0)) 0 ∅ 0)
      ⊢ iprop(((owes (c : Thread nD τ) O (insert (chan 0, ()) W) ∗ semVal (cell (c, 0)) 0
            ∗ (∃ f, buf (mate 0 c) (held 0 c) fullShare f) ∗ (∃ f, buf (mate 1 c) (held 1 c) fullShare f) ∗ (∃ f, buf (mate 2 c) (held 2 c) fullShare f))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS a) k) Q) := by
  subst ha
  iintro ⟨#HI, #Hl, Hc, HO, Hat⟩ Hk
  iapply (Rounds.wp_wait_rest_token 𝒱₀ ER (plan m) (c : Thread nD τ) none (κ := K (c, 0))
      (wpE_semWait_eq 𝒱₀ (c : Thread nD τ) none Set.univ) (Set.mem_univ _) () (O := O) (W := W) (R := 0) (m := 0) (T := ∅)
      (by rw [plan_expect_bar m c])) $$ [Hc HO Hat]
  · isplitr; · iapply (records_inv m K (c, 0)); iexact HI
    isplitl [Hc]; · iexact Hc
    isplitl [HO]; · iexact HO
    isplitr; · iapply (mayWait_cell c 0 O hO); iexact Hl
    iexact Hat
  iintro ⟨HO, Hat, -, Hp⟩
  ihave Hp := (Entails.of_eq (plan_rest_bar m c)) $$ Hp
  imod (Rounds.cell_close ER (plan m) (Set.mem_univ (K (c, 0))) (fun h => h) (R := 0 + 1) (plan_later m (cell (c, 0)))) $$ [Hat] with Hz
  · isplitr; · iapply (records_inv m K (c, 0)); iexact HI
    iexact Hat
  iapply Hk
  isplitl [HO]; · iexact HO
  isplitl [Hz]; · iexact Hz
  iexact Hp

/-- The wait on one of the device's send or receive cells: what the cell delivers, and its counter back at zero. -/
theorem step_wait {α : Type} {Q : α → sProp 𝕄} {k : PUnit → Prog (TpuEff nD τ sig (Elt F) Λ₀ .tc) α}
    (c : Dev nD) (j : Fin 7) (hj : jobs j = {0}) (s : DmaSem sig) (hs : chan j = .dma s) {sp : Space} {sh : Shape}
    {src dst : Memref sig .tc sp sh .bf16} {h1 : src.view.WordExact} {h2 : dst.view.WordExact} (hN : dst.view.dmaCredit = unit j)
    (O : CellTallies nD τ sig Unit) (hO : Above (rank j) O) (W : Waits sig Unit) :
    iprop(records m K ∗ levAts L lv ∗ cred (tallyAt (cell (c, j)) () (unit j)) ∗ owes (c : Thread nD τ) O W ∗ atPos ER (cell (c, j)) 0 ∅ 0)
      ⊢ iprop(((owes (c : Thread nD τ) O (insert (chan j, ()) W) ∗ semVal (cell (c, j)) 0 ∗ load m c j 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src dst h1 h2) k) Q) := by
  iintro ⟨#HI, #Hl, Hc, HO, Hat⟩ Hk
  iapply (Rounds.wp_wait_rest_token 𝒱₀ ER (plan m) (c : Thread nD τ) none (κ := K (c, j)) (sm := chan j) (k' := unit j)
      (w := .waitDma2 s src dst h1 h2)
      (fun Kt => by rw [hs, ← hN]; exact wpE_waitDma2_eq 𝒱₀ (c : Thread nD τ) none Set.univ Kt) (Set.mem_univ _) () (O := O) (W := W) (R := 0) (m := 0) (T := ∅)
      (by rw [Nat.zero_add]; exact (plan_expect m c j hj).symm)) $$ [Hc HO Hat]
  · isplitr; · iapply (records_inv m K (c, j)); iexact HI
    isplitl [Hc]; · iexact Hc
    isplitl [HO]; · iexact HO
    isplitr; · iapply (mayWait_cell c j O hO); iexact Hl
    iexact Hat
  iintro ⟨HO, Hat, -, Hp⟩
  ihave Hp := (Entails.of_eq (plan_rest m c j hj)) $$ Hp
  imod (Rounds.cell_close ER (plan m) (Set.mem_univ (K (c, j))) (fun h => h) (R := 0 + 1) (plan_later m (cell (c, j)))) $$ [Hat] with Hz
  · isplitr; · iapply (records_inv m K (c, j)); iexact HI
    iexact Hat
  iapply Hk
  isplitl [HO]; · iexact HO
  isplitl [Hz]; · iexact Hz
  iexact Hp

/-- The transfer of round `r`: lends a share of the rows read, overwrites the partner's rows. -/
theorem step_send {α : Type} {Q : α → sProp 𝕄} {k : PUnit → Prog (TpuEff nD τ sig (Elt F) Λ₀ .tc) α}
    (c n : Dev nD) (r : Fin 3) (hn : n = mate r c) {off size : Fin 2 → ℕ} {inb : ∀ a, off a + size a ≤ S512x512.size a} {ss rs : DmaSem sig}
    (hss : chan (sendIx r) = .dma ss) (hrs : chan (recvIx r) = .dma rs)
    (hset : (gM.slice (Rect.unit (s := S512x512) off size inb) (fun _ => rfl)).view.set = held r c)
    (hN : (gM.slice (Rect.unit (s := S512x512) off size inb) (fun _ => rfl)).view.dmaCredit = credit r)
    (hu1 : unit (sendIx r) = credit r) (hu2 : unit (recvIx r) = credit r)
    (hl1 : load m c (sendIx r) 0 = buf c (held r c) (lent r) (gathered m))
    (hl2 : load m (mate r c) (recvIx r) 0 = buf (mate r c) (held r (mate r (mate r c))) fullShare (gathered m))
    (hj1 : jobs (sendIx r) = {0}) (hj2 : jobs (recvIx r) = {0})
    {hsc hsrc hdst hsem}
    (O' O : CellTallies nD τ sig Unit)
    (hO : O' = O + tallyAt (cell (mate r c, recvIx r)) () (credit r)) (f : (cc0_scratch0 : Ref sig .tc).ty.Contents (Elt F)) (W : Waits sig Unit) :
    iprop(records m K ∗ buf c (held r c) (lent r) (gathered m) ∗ buf (mate r c) (held r c) fullShare f
        ∗ owes (c : Thread nD τ) O' W ∗ dutyTok ER (cell (c, sendIx r)) 0 0 ∗ dutyTok ER (cell (mate r c, recvIx r)) 0 0)
      ⊢ iprop(((cred (tallyAt (cell (c, sendIx r)) () (credit r)) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (gM.slice (Rect.unit (s := S512x512) off size inb) (fun _ => rfl))
                (.remote (Dev.tc n : Thread nD τ) (gM.slice (Rect.unit (s := S512x512) off size inb) (fun _ => rfl)) (.dma ss) hsc) (.dma rs) hsrc hdst hsem) k) Q) := by
  subst hn
  iintro ⟨#HI, Hs, Hd, HO, Ht1, Ht2⟩
  have hw : ∀ i ∈ held r c, (gM.slice (Rect.unit (s := S512x512) off size inb) (fun _ => rfl)).view.write (Elt F) f
      ((gM.slice (Rect.unit (s := S512x512) off size inb) (fun _ => rfl)).view.read (Elt F) (gathered m)) Finset.univ i = gathered m i := by
    intro i hi
    rw [View.write_read_eq_piecewise, View.setOn_univ, hset]
    exact Finset.piecewise_eq_of_mem _ _ _ hi
  have e1 : cell (c, sendIx r) = ((c : Thread nD τ), SemLoc.dma ss) := by rw [← hss]
  have e2 : cell (mate r c, recvIx r) = ((mate r c : Thread nD τ), SemLoc.dma rs) := by rw [← hrs]
  have hR := Rounds.wp_send_pointsTo (defs := defs₀ (F := F)) (Γ := .empty) (Q := Q) (k := k) 𝒱₀ ER (plan m) (c : Thread nD τ) none (c' := (mate r c : Thread nD τ))
    (κ₁ := K (c, sendIx r)) (κ₂ := K (mate r c, recvIx r))
    (src := gM.slice (Rect.unit (s := S512x512) off size inb) (fun _ => rfl)) (dst := gM.slice (Rect.unit (s := S512x512) off size inb) (fun _ => rfl))
    (sS := .dma ss) (sem := .dma rs) (hsc := hsc) (hsrc := hsrc) (hdst := hdst) (hsem := hsem)
    (q := lent r) (fs := gathered m) (fd := f)
    (O₀ := O') (r₁ := 0) (r₂ := 0) (d₁ := 0) (d₂ := 0)
    (by rw [← e1, plan_duties m c (sendIx r), hj1]; exact Finset.mem_singleton_self _)
    (by rw [← e2, plan_duties m (mate r c) (recvIx r), hj2]; exact Finset.mem_singleton_self _)
    () () (credit r) hN (by rw [← e1]; exact (plan_amount m c (sendIx r) 0).trans hu1)
    (by rw [← e2]; exact (plan_amount m (mate r c) (recvIx r) 0).trans hu2) O (by rw [← e2]; exact hO) (W := W)
    (by rw [← e1, plan_payload m c (sendIx r), hl1, hset]; exact BI.Entails.refl _)
    (by rw [← e2, plan_payload m (mate r c) (recvIx r), hl2, hset, mate_mate]; exact Entails.of_eq (buf_congr (mate r c) _ hw)) (Es := Set.univ)
  have hb : ∀ (d : Dev nD) (S : Finset S512x512.Idx) (q : PosShare TreeShare) (g : (cc0_scratch0 : Ref sig .tc).ty.Contents (Elt F)),
      (((gM.slice (Rect.unit (s := S512x512) off size inb) (fun _ => rfl)).view.loc (d : Thread nD τ)) ↦[S]{q} g : sProp 𝕄) = buf d S q g := fun _ _ _ _ => rfl
  rw [hset, ← e1, ← e2, hb, hb] at hR
  iapply hR
  isplitr; · iapply (records_inv m K (c, sendIx r)); iexact HI
  isplitr; · iapply (records_inv m K (mate r c, recvIx r)); iexact HI
  isplitl [Hs]; · iexact Hs
  isplitl [Hd]; · iexact Hd
  isplitl [HO]; · iexact HO
  isplitl [Ht1]; · iexact Ht1
  isplitr; · iapply (records_reached m K (c, sendIx r)); iexact HI
  isplitl [Ht2]; · iexact Ht2
  iapply (records_reached m K (mate r c, recvIx r)); iexact HI

end Steps

end Cert.Moe

end
-- ==== Proof.Body.lean ====
/-
# Body: the kernel on one device

Each part of the kernel from what it needs to what it leaves, then the whole.
-/
module

public import proofs.«01_k».proof.Proof.Steps
public import proofs.«01_k».proof.Proof.Gen.KernelIdeal.Skeleton
public import proofs.«01_k».proof.Proof.Gen.KernelIdeal.Points
public import proofs.«01_k».proof.Proof.Gen.KernelIdeal.Launch

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 7 → ℕ)

/-- A staging buffer, whole, holding `X`. -/
abbrev full (c : Dev nD) (b : Ref sig .tc) (X : b.ty.Contents (Elt F)) : sProp 𝕄 := ((c : Thread nD τ).loc b) ↦{fullShare} X

abbrev xM : Memref sig .tc .vmem S512x256 .bf16 := Memref.whole cc0_stg0_0
abbrev eM : Memref sig .tc .vmem S512x1 .i32 := Memref.whole cc0_stg1_0
abbrev oM : Memref sig .tc .vmem S512x512 .bf16 := Memref.whole cc0_stg3_0

theorem hz : (![0, 0] : Fin 2 → Nat) = fun _ => 0 := funext fun a => by fin_cases a <;> rfl

/-! ## Loads and stores of whole buffers -/

omit [FloatOps F] in
theorem read_x (f : (cc0_stg0_0 : Ref sig .tc).ty.Contents (Elt F)) :
    xM.view.readAt (Elt F) (Rect.unit (s := S512x256) ![0, 0] S512x256.size inb_S512x256_S512x256_0_0).toLoadRect f = f :=
  Memref.readAt_unit_zero (Elt F) cc0_stg0_0 hz _ f
omit [FloatOps F] in
theorem read_e (f : (cc0_stg1_0 : Ref sig .tc).ty.Contents (Elt F)) :
    eM.view.readAt (Elt F) (Rect.unit (s := S512x1) ![0, 0] S512x1.size inb_S512x1_S512x1_0_0).toLoadRect f = f :=
  Memref.readAt_unit_zero (Elt F) cc0_stg1_0 hz _ f
omit [FloatOps F] in
theorem read_o (f : (cc0_stg3_0 : Ref sig .tc).ty.Contents (Elt F)) :
    oM.view.readAt (Elt F) (Rect.unit (s := S512x512) ![0, 0] S512x512.size inb_S512x512_S512x512_0_0).toLoadRect f = f :=
  Memref.readAt_unit_zero (Elt F) cc0_stg3_0 hz _ f
omit [FloatOps F] in
theorem write_o (f w : (cc0_stg3_0 : Ref sig .tc).ty.Contents (Elt F)) :
    (oM.access (Rect.unit (s := S512x512) ![0, 0] S512x512.size inb_S512x512_S512x512_0_0) : View sig .tc _ _ _).write (Elt F) f w Finset.univ = w :=
  Memref.write_access_unit_zero_univ (Elt F) cc0_stg3_0 hz _ f w

/-! ## Rows and slices -/

theorem row_sub (c : Dev nD) (l : Fin 4) :
    (gM.access (Rect.unit (s := S512x512) (k0_off1 c (BitVec.ofNat 32 (16 * l.val))) S16x512.size (k0_off1_inb c l)) : View sig .tc _ _ _).set ⊆ held 0 c := by
  show ((View.whole cc0_scratch0).slice _).set ⊆ _
  rw [View.set_slice_whole]; exact store_sub c l
theorem row_sub' (c : Dev nD) (l : Fin 4) :
    (gM.access (Rect.unit (s := S512x512) (k0_off1 c (BitVec.ofNat 32 (16 * l.val))) S16x512.size (k0_off1_inb c l)) : View sig .tc _ _ _).setOn Finset.univ ⊆ held 0 c := by
  rw [View.setOn_univ]; exact row_sub c l

omit [FloatOps F] in
theorem mat_two (c : Dev nD) : wM.view.readAt (Elt F) (Rect.unit (s := S4x256x512) ![2, 0, 0] S1x256x512.size inb_S4x256x512_S1x256x512_2_0_0).toLoadRect (mats m c) = mat m c 2 := rfl

theorem pay_two (c : Dev nD) : k0_pay14 (k0_pay13 (atRow (experts m c) c) (mine (experts m c) c) (tokens m c) (mat m c 2)) = stored m c 2 := rfl
theorem pay_three (c : Dev nD) : k0_pay15 (k0_pay10 (atRow (experts m c) c) (mine (experts m c) c) (tokens m c))
    (wM.view.readAt (Elt F) (Rect.unit (s := S4x256x512) ![3, 0, 0] S1x256x512.size inb_S4x256x512_S1x256x512_3_0_0).toLoadRect (mats m c)) = stored m c 3 := rfl

/-! ## The parts -/

/-- Part 1: the three signals, and the experts read. -/
theorem part1 (c : Dev nD) (W : Waits sig Unit) (f : (cc0_scratch0 : Ref sig .tc).ty.Contents (Elt F)) (Q : _ → sProp 𝕄) :
    iprop((records m K ∗ owes (c : Thread nD τ) (sig0 c) W
        ∗ (dutyTok ER (cell (mate 0 c, 0)) 0 (0 : Fin 3) ∗ dutyTok ER (cell (mate 1 c, 0)) 0 (1 : Fin 3) ∗ dutyTok ER (cell (mate 2 c, 0)) 0 (2 : Fin 3))
        ∗ (buf c (held 0 (mate 0 c)) fullShare f ∗ buf c (held 1 (mate 1 c)) fullShare f ∗ buf c (held 2 (mate 2 c)) fullShare f)
        ∗ full c cc0_stg1_0 (experts m c))
      ∗ ((owes (c : Thread nD τ) (due0 c) W ∗ full c cc0_stg1_0 (experts m c))
          -∗ Q ⟨c, ownWord c, placeWord c, Scalar.xori (ownWord c) 2#32, Scalar.xori (ownWord c) 1#32, Scalar.xori (ownWord c) 4#32,
            SemArray.scalar (sig.barrier 0 rfl), k0_pay1 (experts m c), k0_pay2 (experts m c), k0_pay3 (experts m c), cap⟩))
      ⊢ wp frame (wpE (defs₀ (F := F)) 𝒱₀ (c : Thread nD τ) none) Set.univ
          (k0_part1 (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_scratch0) (Memref.isWhole_whole _) cc0_scratch1 cc0_scratch2) Q := by
  rw [k0_part1_eq_skeleton]; unfold k0_part1_skel
  simp only [semSignalWord, semWaitWord, Prog.lift, Prog.bind_op, Prog.bind_ret, Prog.pure_eq_ret, wp_deviceId]
  iintro ⟨⟨#HI, HO, ⟨Ht0, Ht1, Ht2⟩, ⟨Hb0, Hb1, Hb2⟩, He⟩, Hk⟩
  iapply (step_signal m K c _ 0 (dev1_eq c) _ (by decide) (sig0 c) (sig1 c) rfl f W) $$ [HO Ht0 Hb0]
  · isplitr; · iexact HI
    isplitl [HO]; · iexact HO
    isplitl [Ht0]; · iexact Ht0
    iexact Hb0
  iintro HO
  iapply (step_signal m K c _ 1 (dev2_eq c) _ (by decide) (sig1 c) (sig2 c) rfl f W) $$ [HO Ht1 Hb1]
  · isplitr; · iexact HI
    isplitl [HO]; · iexact HO
    isplitl [Ht1]; · iexact Ht1
    iexact Hb1
  iintro HO
  iapply (step_signal m K c _ 2 (dev3_eq c) _ (by decide) (sig2 c) (due0 c) rfl f W) $$ [HO Ht2 Hb2]
  · isplitr; · iexact HI
    isplitl [HO]; · iexact HO
    isplitl [Ht2]; · iexact Ht2
    iexact Hb2
  iintro HO
  iapply (wp_load 𝒱₀ (c : Thread nD τ) none Set.univ (m := eM) (Finset.subset_univ _)) $$ He; iintro He
  rw [read_e, wp_ret]; imodintro
  iapply Hk
  isplitl [HO]; · iexact HO
  iexact He

/-- Part 2 computes. -/
theorem part2 (c : Dev nD) (Q : _ → sProp 𝕄) :
    Q ⟨k0_pay5 (k0_pay2 (experts m c)) (k0_pay3 (experts m c)) cap, k0_pay7 (k0_pay1 (experts m c)) (k0_pay2 (F := F) (experts m c)) (k0_pay3 (experts m c)) cap,
        atRow (experts m c) c, mine (experts m c) c⟩
      ⊢ wp frame (wpE (defs₀ (F := F)) 𝒱₀ (c : Thread nD τ) none) Set.univ
          (k0_part2 (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_scratch0) (Memref.isWhole_whole _) cc0_scratch1 cc0_scratch2
            (ownWord c) (placeWord c) (k0_pay1 (experts m c)) (k0_pay2 (F := F) (experts m c)) (k0_pay3 (experts m c)) cap) Q := by
  rw [k0_part2_eq_skeleton]; unfold k0_part2_skel atRow mine
  simp only [Prog.pure_eq_ret, wp_ret]
  iintro H
  imodintro
  iexact H

/-- Part 3: the first two groups of rows stored, the third computed. -/
theorem part3 (c : Dev nD) (f : (cc0_scratch0 : Ref sig .tc).ty.Contents (Elt F)) (Q : _ → sProp 𝕄) :
    iprop((full c cc0_stg0_0 (tokens m c) ∗ full c cc0_stg2_0 (mats m c) ∗ buf c (held 0 c) fullShare f)
      ∗ (∀ f1 f2, ⌜f1 = (gM.access (Rect.unit (s := S512x512) (k0_off1 c 0#32) S16x512.size (k0_off1_inb c 0)) : View sig .tc _ _ _).write (Elt F) f (stored m c 0) Finset.univ
            ∧ f2 = (gM.access (Rect.unit (s := S512x512) (k0_off1 c 16#32) S16x512.size (k0_off1_inb c 1)) : View sig .tc _ _ _).write (Elt F) f1 (stored m c 1) Finset.univ⌝
          -∗ (full c cc0_stg0_0 (tokens m c) ∗ full c cc0_stg2_0 (mats m c) ∗ buf c (held 0 c) fullShare f2)
          -∗ Q ⟨k0_pay10 (atRow (experts m c) c) (mine (experts m c) c) (tokens m c), k0_pay13 (atRow (experts m c) c) (mine (experts m c) c) (tokens m c) (mat m c 2),
            Scalar.muli (placeWord c) 64#32⟩))
      ⊢ wp frame (wpE (defs₀ (F := F)) 𝒱₀ (c : Thread nD τ) none) Set.univ
          (k0_part3 (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_scratch0) (Memref.isWhole_whole _) cc0_scratch1 cc0_scratch2
            c (placeWord c) (atRow (experts m c) c) (mine (experts m c) c)) Q := by
  rw [k0_part3_eq_skeleton]; unfold k0_part3_skel
  simp only [semSignalWord, semWaitWord, Prog.lift, Prog.bind_op, Prog.bind_ret, Prog.pure_eq_ret, wp_deviceId]
  unfold buf
  iintro ⟨⟨Hx, Hw, Hg⟩, Hk⟩
  iapply (wp_load 𝒱₀ (c : Thread nD τ) none Set.univ (m := xM) (Finset.subset_univ _)) $$ Hx; iintro Hx
  rw [read_x]
  iapply (wp_load 𝒱₀ (c : Thread nD τ) none Set.univ (m := wM) (Finset.subset_univ _)) $$ Hw; iintro Hw
  iapply (wp_load_rect 𝒱₀ (c : Thread nD τ) none Set.univ (m := gM) (row_sub c 0)) $$ Hg; iintro Hg
  iapply (wp_store 𝒱₀ (c : Thread nD τ) none Set.univ (m := gM) (Mk := Finset.univ) (row_sub' c 0)) $$ Hg; iintro Hg
  iapply (wp_load 𝒱₀ (c : Thread nD τ) none Set.univ (m := wM) (Finset.subset_univ _)) $$ Hw; iintro Hw
  iapply (wp_load_rect 𝒱₀ (c : Thread nD τ) none Set.univ (m := gM) (row_sub c 1)) $$ Hg; iintro Hg
  iapply (wp_store 𝒱₀ (c : Thread nD τ) none Set.univ (m := gM) (Mk := Finset.univ) (row_sub' c 1)) $$ Hg; iintro Hg
  iapply (wp_load 𝒱₀ (c : Thread nD τ) none Set.univ (m := wM) (Finset.subset_univ _)) $$ Hw; iintro Hw
  rw [mat_two, wp_ret]; imodintro
  ihave Hk := Hk $$ %_
  ihave Hk := Hk $$ %_
  ihave Hk := Hk $$ %⟨rfl, rfl⟩
  iapply Hk
  isplitl [Hx]; · iexact Hx
  isplitl [Hw]; · iexact Hw
  iexact Hg

/-- Part 4: the last two groups of rows stored, and the wait for the three signals. -/
theorem part4 (c : Dev nD) (W : Waits sig Unit) (f f1 f2 : (cc0_scratch0 : Ref sig .tc).ty.Contents (Elt F))
    (h1 : f1 = (gM.access (Rect.unit (s := S512x512) (k0_off1 c 0#32) S16x512.size (k0_off1_inb c 0)) : View sig .tc _ _ _).write (Elt F) f (stored m c 0) Finset.univ)
    (h2 : f2 = (gM.access (Rect.unit (s := S512x512) (k0_off1 c 16#32) S16x512.size (k0_off1_inb c 1)) : View sig .tc _ _ _).write (Elt F) f1 (stored m c 1) Finset.univ)
    (Q : _ → sProp 𝕄) :
    iprop((records m K ∗ levAts L lv ∗ full c cc0_stg2_0 (mats m c) ∗ buf c (held 0 c) fullShare f2
        ∗ cred (tallyAt (cell (c, 0)) () 3) ∗ owes (c : Thread nD τ) (due0 c) W ∗ atPos ER (cell (c, 0)) 0 ∅ 0)
      ∗ ((full c cc0_stg2_0 (mats m c) ∗ buf c (held 0 c) fullShare (gathered m) ∗ owes (c : Thread nD τ) (due0 c) (insert (chan 0, ()) W) ∗ semVal (cell (c, 0)) 0
            ∗ (∃ f, buf (mate 0 c) (held 0 c) fullShare f) ∗ (∃ f, buf (mate 1 c) (held 1 c) fullShare f) ∗ (∃ f, buf (mate 2 c) (held 2 c) fullShare f))
          -∗ Q ⟨⟩))
      ⊢ wp frame (wpE (defs₀ (F := F)) 𝒱₀ (c : Thread nD τ) none) Set.univ
          (k0_part4 (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_scratch0) (Memref.isWhole_whole _) cc0_scratch1 cc0_scratch2
            c (placeWord c) (Scalar.xori (ownWord c) 2#32) (SemArray.scalar (sig.barrier 0 rfl)) (k0_pay10 (atRow (experts m c) c) (mine (experts m c) c) (tokens m c))
            (k0_pay13 (atRow (experts m c) c) (mine (experts m c) c) (tokens m c) (mat m c 2)) (Scalar.muli (placeWord c) 64#32)) Q := by
  rw [k0_part4_eq_skeleton]; unfold k0_part4_skel
  simp only [semSignalWord, semWaitWord, Prog.lift, Prog.bind_op, Prog.bind_ret, Prog.pure_eq_ret, wp_deviceId]
  iintro ⟨⟨#HI, #Hl, Hw, Hg, Hc, HO, Hat⟩, Hk⟩
  ihave Hg := (Entails.of_eq (show (buf c (held 0 c) fullShare f2 : sProp 𝕄) = (((c : Thread nD τ).loc cc0_scratch0) ↦[held 0 c]{fullShare} f2) from rfl)) $$ Hg
  iapply (wp_load_rect 𝒱₀ (c : Thread nD τ) none Set.univ (m := gM) (row_sub c 2)) $$ Hg; iintro Hg
  iapply (wp_store 𝒱₀ (c : Thread nD τ) none Set.univ (m := gM) (r := Rect.unit (s := S512x512) (k0_off1 c 32#32) S16x512.size (k0_off1_inb c 2)) (Mk := Finset.univ) (row_sub' c 2)) $$ Hg; iintro Hg
  iapply (wp_load 𝒱₀ (c : Thread nD τ) none Set.univ (m := wM) (Finset.subset_univ _)) $$ Hw; iintro Hw
  iapply (wp_load_rect 𝒱₀ (c : Thread nD τ) none Set.univ (m := gM) (row_sub c 3)) $$ Hg; iintro Hg
  iapply (wp_store 𝒱₀ (c : Thread nD τ) none Set.univ (m := gM) (r := Rect.unit (s := S512x512) (k0_off1 c 48#32) S16x512.size (k0_off1_inb c 3)) (Mk := Finset.univ) (row_sub' c 3)) $$ Hg; iintro Hg
  rw [pay_two, pay_three]
  ihave Hg := (Entails.of_eq ((show ((((c : Thread nD τ).loc cc0_scratch0) ↦[held 0 c]{fullShare} _) : sProp 𝕄) = buf c (held 0 c) fullShare _ from rfl).trans
      (buf_congr c _ (own_rows m c f f1 f2 _ _ h1 h2 rfl rfl)))) $$ Hg
  iapply (step_barrier m K c _ (by decide) (due0 c) (above_due0 c) W) $$ [Hc HO Hat]
  · isplitr; · iexact HI
    isplitr; · iexact Hl
    isplitl [Hc]; · iexact Hc
    isplitl [HO]; · iexact HO
    iexact Hat
  iintro ⟨HO, Hz, Hp⟩
  rw [wp_ret]; imodintro
  iapply Hk
  isplitl [Hw]; · iexact Hw
  isplitl [Hg]; · iexact Hg
  isplitl [HO]; · iexact HO
  isplitl [Hz]; · iexact Hz
  iexact Hp

/-- Part 5: the first two rounds of the exchange. -/
theorem part5 (c : Dev nD) (W : Waits sig Unit) (Q : _ → sProp 𝕄) :
    iprop((records m K ∗ levAts L lv ∗ buf c (held 0 c) fullShare (gathered m) ∗ owes (c : Thread nD τ) (due0 c) W
        ∗ (∃ f, buf (mate 0 c) (held 0 c) fullShare f) ∗ (∃ f, buf (mate 1 c) (held 1 c) fullShare f)
        ∗ (dutyTok ER (cell (c, 1)) 0 (0 : Fin 3) ∗ dutyTok ER (cell (mate 0 c, 4)) 0 (0 : Fin 3))
        ∗ (dutyTok ER (cell (c, 2)) 0 (0 : Fin 3) ∗ dutyTok ER (cell (mate 1 c, 5)) 0 (0 : Fin 3))
        ∗ (cred (tallyAt (cell (c, 4)) () (credit 0)) ∗ atPos ER (cell (c, 4)) 0 ∅ 0)
        ∗ (cred (tallyAt (cell (c, 5)) () (credit 1)) ∗ atPos ER (cell (c, 5)) 0 ∅ 0))
      ∗ ((owes (c : Thread nD τ) (due2 c) (insert (chan 5, ()) (insert (chan 4, ()) W))
            ∗ (cred (tallyAt (cell (c, 1)) () (credit 0)) ∗ cred (tallyAt (cell (c, 2)) () (credit 1)))
            ∗ (semVal (cell (c, 4)) 0 ∗ semVal (cell (c, 5)) 0)
            ∗ (buf c (held 2 c) (lent 2) (gathered m) ∗ buf c (held 2 c) fullShare.right.right.right (gathered m)
              ∗ buf c (held 0 (mate 0 c)) fullShare.left (gathered m)
              ∗ buf c (held 1 (mate 1 c)) fullShare.left (gathered m) ∗ buf c (held 1 (mate 1 c)) fullShare.right.left (gathered m)))
          -∗ Q ⟨marks (experts m c), Scalar.muli (Scalar.xori (ownWord c) 4#32) 1#32, 0#32⟩))
      ⊢ wp frame (wpE (defs₀ (F := F)) 𝒱₀ (c : Thread nD τ) none) Set.univ
          (k0_part5 (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_scratch0) (Memref.isWhole_whole _) cc0_scratch1 cc0_scratch2
            c (Scalar.xori (ownWord c) 2#32) (Scalar.xori (ownWord c) 1#32) (Scalar.xori (ownWord c) 4#32)
            (k0_pay5 (k0_pay2 (experts m c)) (k0_pay3 (experts m c)) cap) (k0_pay7 (k0_pay1 (experts m c)) (k0_pay2 (F := F) (experts m c)) (k0_pay3 (experts m c)) cap)) Q := by
  rw [k0_part5_eq_skeleton]; unfold k0_part5_skel marks
  simp only [semSignalWord, semWaitWord, Prog.lift, Prog.bind_op, Prog.bind_ret, Prog.pure_eq_ret, wp_deviceId]
  iintro ⟨⟨#HI, #Hl, Hg, HO, ⟨%g0, Hn0⟩, ⟨%g1, Hn1⟩, ⟨Ht1, Ht4⟩, ⟨Ht2, Ht5⟩, ⟨Hc4, Ha4⟩, Hc5, Ha5⟩, Hk⟩
  ihave Hg := (buf_halve c (gathered m) (held 0 c) fullShare).1 $$ Hg
  icases Hg with ⟨Hgl, Hgr⟩
  iapply (step_send m K c _ 0 (dev4_eq c) rfl rfl (sl0_set c) rfl rfl rfl rfl rfl rfl rfl (due0 c) (due1 c) rfl g0 W) $$ [Hgl Hn0 HO Ht1 Ht4]
  · isplitr; · iexact HI
    isplitl [Hgl]; · iexact Hgl
    isplitl [Hn0]; · iexact Hn0
    isplitl [HO]; · iexact HO
    isplitl [Ht1]; · iexact Ht1
    iexact Ht4
  iintro ⟨Hc1, HO⟩
  iapply (step_wait m K c 4 (src := sl0 c) (dst := sl0 c) rfl rcv0 rfl rfl (due1 c) (above_due1 c) W) $$ [Hc4 HO Ha4]
  · isplitr; · iexact HI
    isplitr; · iexact Hl
    isplitl [Hc4]; · iexact Hc4
    isplitl [HO]; · iexact HO
    iexact Ha4
  iintro ⟨HO, Hz4, Hr⟩
  ihave Hr := (Entails.of_eq (show load m c 4 0 = (buf c (held 0 (mate 0 c)) fullShare (gathered m) : sProp 𝕄) from rfl)) $$ Hr
  ihave Hg := (buf_join1 c (gathered m)) $$ [Hgr Hr]
  · isplitl [Hgr]; · iexact Hgr
    iexact Hr
  icases Hg with ⟨Hg1, Hgr, Hk0⟩
  iapply (step_send m K c _ 1 (dev5_eq c) rfl rfl (sl1_set c) rfl rfl rfl rfl rfl rfl rfl (due1 c) (due2 c) rfl g1 (insert (chan 4, ()) W)) $$ [Hg1 Hn1 HO Ht2 Ht5]
  · isplitr; · iexact HI
    isplitl [Hg1]; · iexact Hg1
    isplitl [Hn1]; · iexact Hn1
    isplitl [HO]; · iexact HO
    isplitl [Ht2]; · iexact Ht2
    iexact Ht5
  iintro ⟨Hc2, HO⟩
  iapply (step_wait m K c 5 (src := sl1 c) (dst := sl1 c) rfl rcv1 rfl rfl (due2 c) (above_due2 c) (insert (chan 4, ()) W)) $$ [Hc5 HO Ha5]
  · isplitr; · iexact HI
    isplitr; · iexact Hl
    isplitl [Hc5]; · iexact Hc5
    isplitl [HO]; · iexact HO
    iexact Ha5
  iintro ⟨HO, Hz5, Hr⟩
  ihave Hr := (Entails.of_eq (show load m c 5 0 = (buf c (held 1 (mate 1 c)) fullShare (gathered m) : sProp 𝕄) from rfl)) $$ Hr
  ihave Hg := (buf_join2 c (gathered m)) $$ [Hgr Hr]
  · isplitl [Hgr]; · iexact Hgr
    iexact Hr
  rw [wp_ret]; imodintro
  iapply Hk
  isplitl [HO]; · iexact HO
  isplitl [Hc1 Hc2]; · isplitl [Hc1] <;> iassumption
  isplitl [Hz4 Hz5]; · isplitl [Hz4] <;> iassumption
  icases Hg with ⟨H1, H2, H3⟩
  isplitl [H1]; · iexact H1
  isplitl [H2]; · iexact H2
  isplitl [Hk0]; · iexact Hk0
  iexact H3

omit [FloatOps F] in
theorem half_sub {off : Fin 2 → ℕ} {inb} {S : Finset S512x512.Idx} (h : (Rect.unit (s := S512x512) off S256x512.size inb).set ⊆ S) :
    (gM.access (Rect.unit (s := S512x512) off S256x512.size inb) : View sig .tc _ _ _).set ⊆ S := by
  show ((View.whole cc0_scratch0).slice _).set ⊆ _
  rw [View.set_slice_whole]; exact h

/-- Part 6: the last round of the exchange, with the result computed in two halves around it, and the first transfer done. -/
theorem part6 (c : Dev nD) (W : Waits sig Unit) (g : (cc0_stg3_0 : Ref sig .tc).ty.Contents (Elt F)) (Q : _ → sProp 𝕄) :
    iprop((records m K ∗ levAts L lv ∗ buf c (held 2 c) (lent 2) (gathered m) ∗ buf c (held 2 c) fullShare.right.right.right (gathered m)
        ∗ owes (c : Thread nD τ) (due2 c) W ∗ (∃ f, buf (mate 2 c) (held 2 c) fullShare f)
        ∗ dutyTok ER (cell (c, 3)) 0 (0 : Fin 3) ∗ dutyTok ER (cell (mate 2 c, 6)) 0 (0 : Fin 3)
        ∗ (cred (tallyAt (cell (c, 6)) () (credit 2)) ∗ atPos ER (cell (c, 6)) 0 ∅ 0)
        ∗ (cred (tallyAt (cell (c, 1)) () (credit 0)) ∗ atPos ER (cell (c, 1)) 0 ∅ 0)
        ∗ full c cc0_stg3_0 g)
      ∗ ((owes (c : Thread nD τ) 0 (insert (chan 1, ()) (insert (chan 6, ()) W)) ∗ cred (tallyAt (cell (c, 3)) () (credit 2))
            ∗ semVal (cell (c, 6)) 0 ∗ semVal (cell (c, 1)) 0 ∗ buf c (held 0 c) (lent 0) (gathered m)
            ∗ buf c (held 2 c) fullShare.right.right.right (gathered m) ∗ buf c (held 2 (mate 2 c)) fullShare (gathered m)
            ∗ full c cc0_stg3_0 (result m c))
          -∗ Q ⟨⟩))
      ⊢ wp frame (wpE (defs₀ (F := F)) 𝒱₀ (c : Thread nD τ) none) Set.univ
          (k0_part6 (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_scratch0) (Memref.isWhole_whole _) cc0_scratch1 cc0_scratch2
            c (placeWord c) (Scalar.xori (ownWord c) 4#32) (marks (experts m c)) (Scalar.muli (Scalar.xori (ownWord c) 4#32) 1#32) 0#32) Q := by
  rw [k0_part6_eq_skeleton]; unfold k0_part6_skel
  by_cases h : (place c).val < 4
  · have e1 := (lowHalf_iff c).2 h
    have e2 := mt (highHalf_iff c).1 (fun hn => hn h)
    simp only [dif_pos e1, dif_neg e2, semSignalWord, semWaitWord, Prog.lift, Prog.bind_op, Prog.bind_ret, Prog.pure_eq_ret, wp_deviceId]
    iintro ⟨⟨#HI, #Hl, Hs, Hg, HO, ⟨%g2, Hn2⟩, Ht3, Ht6, ⟨Hc6, Ha6⟩, ⟨Hc1, Ha1⟩, Ho⟩, Hk⟩
    iapply (step_send m K c _ 2 (dev6_eq c) rfl rfl (sl2_set c) rfl rfl rfl rfl rfl rfl rfl (due2 c) 0 (by rw [zero_add]; rfl) g2 W) $$ [Hs Hn2 HO Ht3 Ht6]
    · isplitr; · iexact HI
      isplitl [Hs]; · iexact Hs
      isplitl [Hn2]; · iexact Hn2
      isplitl [HO]; · iexact HO
      isplitl [Ht3]; · iexact Ht3
      iexact Ht6
    iintro ⟨Hc3, HO⟩
    ihave Hg := (Entails.of_eq (show (buf c (held 2 c) fullShare.right.right.right (gathered m) : sProp 𝕄) = (((c : Thread nD τ).loc cc0_scratch0) ↦[held 2 c]{fullShare.right.right.right} (gathered m)) from rfl)) $$ Hg
    iapply (wp_load_rect 𝒱₀ (c : Thread nD τ) none Set.univ (m := gM) (r := Rect.unit (s := S512x512) ![0, 0] S256x512.size inb_S512x512_S256x512_0_0) (half_sub ((low_sub c h).1))) $$ Hg; iintro Hg
    iapply (wp_load 𝒱₀ (c : Thread nD τ) none Set.univ (m := oM) (Finset.subset_univ _)) $$ Ho; iintro Ho
    iapply (wp_store 𝒱₀ (c : Thread nD τ) none Set.univ (m := oM) (r := Rect.unit (s := S512x512) ![0, 0] S512x512.size inb_S512x512_S512x512_0_0) (Mk := Finset.univ) (Finset.subset_univ _)) $$ Ho; iintro Ho
    rw [write_o]
    iapply (step_wait m K c 6 (src := sl2 c) (dst := sl2 c) rfl rcv2 rfl rfl 0 (above_zero _) W) $$ [Hc6 HO Ha6]
    · isplitr; · iexact HI
      isplitr; · iexact Hl
      isplitl [Hc6]; · iexact Hc6
      isplitl [HO]; · iexact HO
      iexact Ha6
    iintro ⟨HO, Hz6, Hr⟩
    ihave Hr := (Entails.of_eq (show load m c 6 0 = ((((c : Thread nD τ).loc cc0_scratch0) ↦[held 2 (mate 2 c)]{fullShare} (gathered m)) : sProp 𝕄) from rfl)) $$ Hr
    iapply (wp_load 𝒱₀ (c : Thread nD τ) none Set.univ (m := oM) (Finset.subset_univ _)) $$ Ho; iintro Ho
    iapply (wp_load_rect 𝒱₀ (c : Thread nD τ) none Set.univ (m := gM) (r := Rect.unit (s := S512x512) ![256, 0] S256x512.size inb_S512x512_S256x512_256_0) (half_sub ((low_sub c h).2))) $$ Hr; iintro Hr
    iapply (wp_load 𝒱₀ (c : Thread nD τ) none Set.univ (m := oM) (Finset.subset_univ _)) $$ Ho; iintro Ho
    iapply (wp_store 𝒱₀ (c : Thread nD τ) none Set.univ (m := oM) (r := Rect.unit (s := S512x512) ![0, 0] S512x512.size inb_S512x512_S512x512_0_0) (Mk := Finset.univ) (Finset.subset_univ _)) $$ Ho; iintro Ho
    rw [write_o, read_o]
    iapply (step_wait m K c 1 (src := sl0 c) (dst := sl0 c) rfl snd0 rfl rfl 0 (above_zero _) (insert (chan 6, ()) W)) $$ [Hc1 HO Ha1]
    · isplitr; · iexact HI
      isplitr; · iexact Hl
      isplitl [Hc1]; · iexact Hc1
      isplitl [HO]; · iexact HO
      iexact Ha1
    iintro ⟨HO, Hz1, Hb⟩
    ihave Hb := (Entails.of_eq (show load m c 1 0 = (buf c (held 0 c) (lent 0) (gathered m) : sProp 𝕄) from rfl)) $$ Hb
    have hres : result m c = k0_pay19 (marks (experts m c)) (k0_pay17 (marks (experts m c)) (lowHalf m)) (highHalf m) := by
      unfold result; exact if_pos h
    ihave Hg := (Entails.of_eq (show ((((c : Thread nD τ).loc cc0_scratch0) ↦[held 2 c]{fullShare.right.right.right} (gathered m)) : sProp 𝕄) = buf c (held 2 c) fullShare.right.right.right (gathered m) from rfl)) $$ Hg
    ihave Hr := (Entails.of_eq (show ((((c : Thread nD τ).loc cc0_scratch0) ↦[held 2 (mate 2 c)]{fullShare} (gathered m)) : sProp 𝕄) = buf c (held 2 (mate 2 c)) fullShare (gathered m) from rfl)) $$ Hr
    rw [hres, wp_ret]; imodintro
    iapply Hk
    isplitl [HO]; · iexact HO
    isplitl [Hc3]; · iexact Hc3
    isplitl [Hz6]; · iexact Hz6
    isplitl [Hz1]; · iexact Hz1
    isplitl [Hb]; · iexact Hb
    isplitl [Hg]; · iexact Hg
    isplitl [Hr]; · iexact Hr
    iexact Ho
  · have e1 := mt (lowHalf_iff c).1 h
    have e2 := (highHalf_iff c).2 h
    simp only [dif_neg e1, dif_pos e2, semSignalWord, semWaitWord, Prog.lift, Prog.bind_op, Prog.bind_ret, Prog.pure_eq_ret, wp_deviceId]
    iintro ⟨⟨#HI, #Hl, Hs, Hg, HO, ⟨%g2, Hn2⟩, Ht3, Ht6, ⟨Hc6, Ha6⟩, ⟨Hc1, Ha1⟩, Ho⟩, Hk⟩
    iapply (step_send m K c _ 2 (dev6_eq c) rfl rfl (sl2_set c) rfl rfl rfl rfl rfl rfl rfl (due2 c) 0 (by rw [zero_add]; rfl) g2 W) $$ [Hs Hn2 HO Ht3 Ht6]
    · isplitr; · iexact HI
      isplitl [Hs]; · iexact Hs
      isplitl [Hn2]; · iexact Hn2
      isplitl [HO]; · iexact HO
      isplitl [Ht3]; · iexact Ht3
      iexact Ht6
    iintro ⟨Hc3, HO⟩
    ihave Hg := (Entails.of_eq (show (buf c (held 2 c) fullShare.right.right.right (gathered m) : sProp 𝕄) = (((c : Thread nD τ).loc cc0_scratch0) ↦[held 2 c]{fullShare.right.right.right} (gathered m)) from rfl)) $$ Hg
    iapply (wp_load_rect 𝒱₀ (c : Thread nD τ) none Set.univ (m := gM) (r := Rect.unit (s := S512x512) ![256, 0] S256x512.size inb_S512x512_S256x512_256_0) (half_sub ((high_sub c h).1))) $$ Hg; iintro Hg
    iapply (wp_load 𝒱₀ (c : Thread nD τ) none Set.univ (m := oM) (Finset.subset_univ _)) $$ Ho; iintro Ho
    iapply (wp_store 𝒱₀ (c : Thread nD τ) none Set.univ (m := oM) (r := Rect.unit (s := S512x512) ![0, 0] S512x512.size inb_S512x512_S512x512_0_0) (Mk := Finset.univ) (Finset.subset_univ _)) $$ Ho; iintro Ho
    rw [write_o]
    iapply (step_wait m K c 6 (src := sl2 c) (dst := sl2 c) rfl rcv2 rfl rfl 0 (above_zero _) W) $$ [Hc6 HO Ha6]
    · isplitr; · iexact HI
      isplitr; · iexact Hl
      isplitl [Hc6]; · iexact Hc6
      isplitl [HO]; · iexact HO
      iexact Ha6
    iintro ⟨HO, Hz6, Hr⟩
    ihave Hr := (Entails.of_eq (show load m c 6 0 = ((((c : Thread nD τ).loc cc0_scratch0) ↦[held 2 (mate 2 c)]{fullShare} (gathered m)) : sProp 𝕄) from rfl)) $$ Hr
    iapply (wp_load 𝒱₀ (c : Thread nD τ) none Set.univ (m := oM) (Finset.subset_univ _)) $$ Ho; iintro Ho
    iapply (wp_load_rect 𝒱₀ (c : Thread nD τ) none Set.univ (m := gM) (r := Rect.unit (s := S512x512) ![0, 0] S256x512.size inb_S512x512_S256x512_0_0) (half_sub ((high_sub c h).2))) $$ Hr; iintro Hr
    iapply (wp_load 𝒱₀ (c : Thread nD τ) none Set.univ (m := oM) (Finset.subset_univ _)) $$ Ho; iintro Ho
    iapply (wp_store 𝒱₀ (c : Thread nD τ) none Set.univ (m := oM) (r := Rect.unit (s := S512x512) ![0, 0] S512x512.size inb_S512x512_S512x512_0_0) (Mk := Finset.univ) (Finset.subset_univ _)) $$ Ho; iintro Ho
    rw [write_o, read_o]
    iapply (step_wait m K c 1 (src := sl0 c) (dst := sl0 c) rfl snd0 rfl rfl 0 (above_zero _) (insert (chan 6, ()) W)) $$ [Hc1 HO Ha1]
    · isplitr; · iexact HI
      isplitr; · iexact Hl
      isplitl [Hc1]; · iexact Hc1
      isplitl [HO]; · iexact HO
      iexact Ha1
    iintro ⟨HO, Hz1, Hb⟩
    ihave Hb := (Entails.of_eq (show load m c 1 0 = (buf c (held 0 c) (lent 0) (gathered m) : sProp 𝕄) from rfl)) $$ Hb
    have hres : result m c = k0_pay20 (marks (experts m c)) (k0_pay18 (marks (experts m c)) (highHalf m)) (lowHalf m) := by
      unfold result; exact if_neg h
    ihave Hg := (Entails.of_eq (show ((((c : Thread nD τ).loc cc0_scratch0) ↦[held 2 c]{fullShare.right.right.right} (gathered m)) : sProp 𝕄) = buf c (held 2 c) fullShare.right.right.right (gathered m) from rfl)) $$ Hg
    ihave Hr := (Entails.of_eq (show ((((c : Thread nD τ).loc cc0_scratch0) ↦[held 2 (mate 2 c)]{fullShare} (gathered m)) : sProp 𝕄) = buf c (held 2 (mate 2 c)) fullShare (gathered m) from rfl)) $$ Hr
    rw [hres, wp_ret]; imodintro
    iapply Hk
    isplitl [HO]; · iexact HO
    isplitl [Hc3]; · iexact Hc3
    isplitl [Hz6]; · iexact Hz6
    isplitl [Hz1]; · iexact Hz1
    isplitl [Hb]; · iexact Hb
    isplitl [Hg]; · iexact Hg
    isplitl [Hr]; · iexact Hr
    iexact Ho

/-! ## The whole -/

/-- What a device starts with: the cells' standing facts, its positions, its duties. -/
def ghost (c : Dev nD) : sProp 𝕄 :=
  iprop(records m K
    ∗ (atPos ER (cell (c, 0)) 0 ∅ 0 ∗ atPos ER (cell (c, 1)) 0 ∅ 0 ∗ atPos ER (cell (c, 2)) 0 ∅ 0 ∗ atPos ER (cell (c, 3)) 0 ∅ 0
      ∗ atPos ER (cell (c, 4)) 0 ∅ 0 ∗ atPos ER (cell (c, 5)) 0 ∅ 0 ∗ atPos ER (cell (c, 6)) 0 ∅ 0)
    ∗ (dutyTok ER (cell (mate 0 c, 0)) 0 (0 : Fin 3) ∗ dutyTok ER (cell (mate 1 c, 0)) 0 (1 : Fin 3) ∗ dutyTok ER (cell (mate 2 c, 0)) 0 (2 : Fin 3))
    ∗ (dutyTok ER (cell (c, 1)) 0 (0 : Fin 3) ∗ dutyTok ER (cell (c, 2)) 0 (0 : Fin 3) ∗ dutyTok ER (cell (c, 3)) 0 (0 : Fin 3))
    ∗ (dutyTok ER (cell (mate 0 c, 4)) 0 (0 : Fin 3) ∗ dutyTok ER (cell (mate 1 c, 5)) 0 (0 : Fin 3) ∗ dutyTok ER (cell (mate 2 c, 6)) 0 (0 : Fin 3)))

/-- The credit a device may wait with, and the levels. -/
def credits (c : Dev nD) : sProp 𝕄 :=
  iprop(cred (tallyAt (cell (c, 0)) () 3)
    ∗ (cred (tallyAt (cell (c, 4)) () (credit 0)) ∗ cred (tallyAt (cell (c, 5)) () (credit 1)) ∗ cred (tallyAt (cell (c, 6)) () (credit 2))) ∗ levAts L lv)

/-- All seven counters at zero. -/
def zeros (c : Dev nD) : sProp 𝕄 :=
  iprop(semVal (cell (c, 0)) 0 ∗ semVal (cell (c, 1)) 0 ∗ semVal (cell (c, 2)) 0 ∗ semVal (cell (c, 3)) 0
    ∗ semVal (cell (c, 4)) 0 ∗ semVal (cell (c, 5)) 0 ∗ semVal (cell (c, 6)) 0)

/-- The kernel on device `c`, from its four staging buffers to the result. -/
theorem whole (c : Dev nD) (W : Waits sig Unit) (f : (cc0_scratch0 : Ref sig .tc).ty.Contents (Elt F)) (g : (cc0_stg3_0 : Ref sig .tc).ty.Contents (Elt F)) (Q : PUnit → sProp 𝕄) :
    iprop((ghost m K c ∗ credits c ∗ buf c Finset.univ fullShare f ∗ owes (c : Thread nD τ) (sig0 c) W
        ∗ full c cc0_stg0_0 (tokens m c) ∗ full c cc0_stg1_0 (experts m c) ∗ full c cc0_stg2_0 (mats m c) ∗ full c cc0_stg3_0 g)
      ∗ (∀ W', (zeros c ∗ buf c Finset.univ fullShare (gathered m) ∗ owes (c : Thread nD τ) 0 W'
          ∗ full c cc0_stg0_0 (tokens m c) ∗ full c cc0_stg1_0 (experts m c) ∗ full c cc0_stg2_0 (mats m c) ∗ full c cc0_stg3_0 (result m c))
        -∗ Q ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_scratch0) (Memref.isWhole_whole _) cc0_scratch1 cc0_scratch2) Q := by
  rw [cc0_body_eq_skeleton]; unfold cc0_body_skel ghost credits
  iintro ⟨⟨⟨#HI, ⟨Ha0, Ha1, Ha2, Ha3, Ha4, Ha5, Ha6⟩, Htb, ⟨Ht1, Ht2, Ht3⟩, Ht4, Ht5, Ht6⟩, ⟨Hc0, ⟨Hc4, Hc5, Hc6⟩, #Hl⟩, Hbuf, HO, Hx, He, Hw, Ho⟩, Hk⟩
  ihave Hbuf := (buf_deal c f) $$ Hbuf
  icases Hbuf with ⟨Hg, Hb⟩
  rw [wp_bind]
  iapply (part1 m K c W f _)
  isplitl [HO Htb Hb He]
  · isplitr; · iexact HI
    isplitl [HO]; · iexact HO
    isplitl [Htb]; · iexact Htb
    isplitl [Hb]; · iexact Hb
    iexact He
  iintro ⟨HO, He⟩
  dsimp only
  rw [wp_bind]
  iapply (part2 m c _)
  dsimp only
  rw [wp_bind]
  iapply (part3 m c f _)
  isplitl [Hx Hw Hg]
  · isplitl [Hx]; · iexact Hx
    isplitl [Hw]; · iexact Hw
    iexact Hg
  iintro %f1 %f2 %hf ⟨Hx, Hw, Hg⟩
  dsimp only
  rw [wp_bind]
  iapply (part4 m K c W f f1 f2 hf.1 hf.2 _)
  isplitl [Hw Hg Hc0 HO Ha0]
  · isplitr; · iexact HI
    isplitr; · iexact Hl
    isplitl [Hw]; · iexact Hw
    isplitl [Hg]; · iexact Hg
    isplitl [Hc0]; · iexact Hc0
    isplitl [HO]; · iexact HO
    iexact Ha0
  iintro ⟨Hw, Hg, HO, Hz0, Hn0, Hn1, Hn2⟩
  rw [wp_bind]
  iapply (part5 m K c _ _)
  isplitl [Hg HO Hn0 Hn1 Ht1 Ht4 Ht2 Ht5 Hc4 Ha4 Hc5 Ha5]
  · isplitr; · iexact HI
    isplitr; · iexact Hl
    isplitl [Hg]; · iexact Hg
    isplitl [HO]; · iexact HO
    isplitl [Hn0]; · iexact Hn0
    isplitl [Hn1]; · iexact Hn1
    isplitl [Ht1 Ht4]; · isplitl [Ht1] <;> iassumption
    isplitl [Ht2 Ht5]; · isplitl [Ht2] <;> iassumption
    isplitl [Hc4 Ha4]; · isplitl [Hc4] <;> iassumption
    isplitl [Hc5] <;> iassumption
  iintro ⟨HO, ⟨Hc1, Hc2⟩, ⟨Hz4, Hz5⟩, Hs2, Hg, Hb0, Hb1, Hb1'⟩
  dsimp only
  rw [wp_bind]
  iapply (part6 m K c _ g _)
  isplitl [Hs2 Hg HO Hn2 Ht3 Ht6 Hc6 Ha6 Hc1 Ha1 Ho]
  · isplitr; · iexact HI
    isplitr; · iexact Hl
    isplitl [Hs2]; · iexact Hs2
    isplitl [Hg]; · iexact Hg
    isplitl [HO]; · iexact HO
    isplitl [Hn2]; · iexact Hn2
    isplitl [Ht3]; · iexact Ht3
    isplitl [Ht6]; · iexact Ht6
    isplitl [Hc6 Ha6]; · isplitl [Hc6] <;> iassumption
    isplitl [Hc1 Ha1]; · isplitl [Hc1] <;> iassumption
    iexact Ho
  iintro ⟨HO, Hc3, Hz6, Hz1, Hs0, Hg, Hb2, Ho⟩
  simp only [semSignalWord, semWaitWord, Prog.lift, Prog.bind_op, Prog.bind_ret, Prog.pure_eq_ret, wp_deviceId]
  iapply (step_wait m K c 2 (src := sl1 c) (dst := sl1 c) rfl snd1 rfl rfl 0 (above_zero _) _) $$ [Hc2 HO Ha2]
  · isplitr; · iexact HI
    isplitr; · iexact Hl
    isplitl [Hc2]; · iexact Hc2
    isplitl [HO]; · iexact HO
    iexact Ha2
  iintro ⟨HO, Hz2, Hs1⟩
  ihave Hs1 := (Entails.of_eq (show load m c 2 0 = (buf c (held 1 c) (lent 1) (gathered m) : sProp 𝕄) from rfl)) $$ Hs1
  iapply (step_wait m K c 3 (src := sl2 c) (dst := sl2 c) rfl snd2 rfl rfl 0 (above_zero _) _) $$ [Hc3 HO Ha3]
  · isplitr; · iexact HI
    isplitr; · iexact Hl
    isplitl [Hc3]; · iexact Hc3
    isplitl [HO]; · iexact HO
    iexact Ha3
  iintro ⟨HO, Hz3, Hs2⟩
  ihave Hs2 := (Entails.of_eq (show load m c 3 0 = (buf c (held 2 c) (lent 2) (gathered m) : sProp 𝕄) from rfl)) $$ Hs2
  ihave Hbuf := (buf_gather c (gathered m)) $$ [Hs0 Hs1 Hs2 Hg Hb0 Hb1 Hb1' Hb2]
  · isplitl [Hs0]; · iexact Hs0
    isplitl [Hs1]; · iexact Hs1
    isplitl [Hs2]; · iexact Hs2
    isplitl [Hg]; · iexact Hg
    isplitl [Hb0]; · iexact Hb0
    isplitl [Hb1]; · iexact Hb1
    isplitl [Hb1'] <;> iassumption
  rw [wp_ret]; imodintro
  ihave Hk := Hk $$ %_
  iapply Hk
  unfold zeros
  isplitl [Hz0 Hz1 Hz2 Hz3 Hz4 Hz5 Hz6]
  · isplitl [Hz0]; · iexact Hz0
    isplitl [Hz1]; · iexact Hz1
    isplitl [Hz2]; · iexact Hz2
    isplitl [Hz3]; · iexact Hz3
    isplitl [Hz4]; · iexact Hz4
    isplitl [Hz5] <;> iassumption
  isplitl [Hbuf]; · iexact Hbuf
  isplitl [HO]; · iexact HO
  isplitl [Hx]; · iexact Hx
  isplitl [He]; · iexact He
  isplitl [Hw] <;> iassumption

end Cert.Moe

end
-- ==== Proof.Run.lean ====
/-
# Run: the eight devices together

The region on one device (`point`), the launch — the cells' invariants made, every duty's token brought to the device that
pays it, the credits counted — and the run of the whole program, `run_main`.
-/
module

public import proofs.«01_k».proof.Proof.Body
public import proofs.«01_k».proof.Proof.Gen.KernelIdeal.Frame
public import Idealize.ShloMosaic.Lib.Pipeline.Launch
public import Idealize.ShloMosaic.Lib.Pipeline.Kit
public import Idealize.ShloMosaic.Lib.Pipeline.CollectiveSegs
public import Idealize.ShloMosaic.Lib.Quiescent

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The region on one device -/

/-- What the region starts from beside its buffers, and with the landing buffer; -/
def start (c : Dev nD) : sProp 𝕄 := iprop((∃ K, ghost m K c) ∗ credits c)
def before (c : Dev nD) : sProp 𝕄 := iprop(start m c ∗ ∃ f, buf c Finset.univ fullShare f)
/-- what it leaves. -/
def behind (c : Dev nD) : sProp 𝕄 := iprop(buf c Finset.univ fullShare (gathered m) ∗ zeros c)

def dats (_ : Fin 1) (c : Dev nD) : Dat τ (Elt F) Unit ℕ UU ℕ cfg0 c where
  A w := m ((cfg0.win w).arr.view.loc (c : Thread nD τ))
  after w _ := match w with
    | ⟨0, _⟩ => tokens m c
    | ⟨1, _⟩ => experts m c
    | ⟨2, _⟩ => mats m c
    | ⟨3, _⟩ => result m c
  Φ t := match t with
    | ⟨0, _⟩ => before m c
    | ⟨_ + 1, _⟩ => behind m c
  q _ := fullShare
  owed t := match t with
    | ⟨0, _⟩ => sig0 c
    | ⟨_ + 1, _⟩ => 0

/-- A staging buffer holding `X`, as the region's obligation writes it. -/
def holds (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

omit [FloatOps F] in
theorem owns_holds (c : Dev nD) (b : Ref sig .tc) (X : b.ty.Contents (Elt F)) :
    (owns (Ix := Unit) (Name := ℕ) (U := UU) (Lvl := ℕ) (c : Thread nD τ) (Memref.whole b) fullShare X : sProp 𝕄) = holds c b X := by
  unfold owns holds; simp only [Memref.view_whole, View.read_whole, View.set_whole]

def pointPre (c : Dev nD) : sProp 𝕄 :=
  iprop(before m c ∗ (dats m 0 c).owesAt () t0_0.castSucc
    ∗ (∃ d, holds c cc0_stg0_0 ((dats m 0 c).before (0 : Fin 4) t0_0 d)) ∗ (∃ d, holds c cc0_stg1_0 ((dats m 0 c).before (1 : Fin 4) t0_0 d))
    ∗ (∃ d, holds c cc0_stg2_0 ((dats m 0 c).before (2 : Fin 4) t0_0 d)) ∗ (∃ d, holds c cc0_stg3_0 ((dats m 0 c).before (3 : Fin 4) t0_0 d)))

def pointPost (c : Dev nD) : sProp 𝕄 :=
  iprop(behind m c ∗ (dats m 0 c).owesAt () t0_0.succ
    ∗ holds c cc0_stg0_0 (tokens m c) ∗ holds c cc0_stg1_0 (experts m c) ∗ holds c cc0_stg2_0 (mats m c) ∗ holds c cc0_stg3_0 (result m c))

/-- The kernel at the region's one point. -/
theorem point (c : Dev nD) :
    pointPre m c ⊢ wp frame (wpE (defs₀ (F := F)) 𝒱₀ (c : Thread nD τ) none) Set.univ
      (cc0_body (Memref.whole cc0_stg0_0) (Memref.isWhole_whole _) (Memref.whole cc0_stg1_0) (Memref.isWhole_whole _) (Memref.whole cc0_stg2_0) (Memref.isWhole_whole _)
        (Memref.whole cc0_stg3_0) (Memref.isWhole_whole _) (Memref.whole cc0_scratch0) (Memref.isWhole_whole _) cc0_scratch1 cc0_scratch2) (fun _ => pointPost m c) := by
  unfold pointPre pointPost before behind start holds Dat.owesAt Pipeline.owesWithin
  rw [show (dats m 0 c).owed t0_0.castSucc = sig0 c from rfl, show (dats m 0 c).owed t0_0.succ = 0 from rfl]
  iintro ⟨⟨⟨⟨%K, Hg⟩, Hc⟩, ⟨%f, Hb⟩⟩, ⟨%W, %hW, HO⟩, ⟨%d0, %g0, %hg0, H0⟩, ⟨%d1, %g1, %hg1, H1⟩, ⟨%d2, %g2, %hg2, H2⟩, ⟨%d3, %g3, %hg3, H3⟩⟩
  have h0 : g0 = tokens m c := by rw [hg0]; unfold Dat.before; rw [if_pos (fetch0_0 _)]; rfl
  have h1 : g1 = experts m c := by rw [hg1]; unfold Dat.before; rw [if_pos (fetch0_1 _)]; rfl
  have h2 : g2 = mats m c := by rw [hg2]; unfold Dat.before; rw [if_pos (fetch0_2 _)]; rfl
  subst h0 h1 h2
  iapply (whole m K c W f g3 _)
  isplitl [Hg Hc Hb HO H0 H1 H2 H3]
  · isplitl [Hg]; · iexact Hg
    isplitl [Hc]; · iexact Hc
    isplitl [Hb]; · iexact Hb
    isplitl [HO]; · iexact HO
    isplitl [H0]; · iexact H0
    isplitl [H1]; · iexact H1
    isplitl [H2]; · iexact H2
    iexact H3
  iintro %W' ⟨Hz, Hb, HO, H0, H1, H2, H3⟩
  isplitl [Hb Hz]
  · isplitl [Hb]; · iexact Hb
    iexact Hz
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  iexists _; isplitr; · (ipureintro; rfl)
  iexact H3

theorem obligation (c : Dev nD) : BodyObligation (dats (F := F) m 0 c) (defs₀ (F := F)) 𝒱₀ () Set.univ := fun t => by
  rw [fin_N0 t]
  rw [bigSep_W0, bigSep_W0]
  simp only [owns_holds]
  exact point m c

/-! ## The cells and the duties at launch -/

theorem own_facts : Pipeline.OwnSemFacts cfg0.spec own := by decide

theorem share_full (c : Dev nD) (w : Fin cfg0.W) : (dats m 0 c).share w = fullShare := by unfold Dat.share; split <;> rfl

def cells : Finset (GSem nD τ sig) := Finset.univ.map ⟨cell, cell_injective⟩

/-- The nine duties of a device's own cells: which cell, which duty; -/
abbrev job : Fin 9 → Fin 7 × Fin 3 :=
  fun | 0 => (0, 0) | 1 => (0, 1) | 2 => (0, 2) | 3 => (1, 0) | 4 => (2, 0) | 5 => (3, 0) | 6 => (4, 0) | 7 => (5, 0) | 8 => (6, 0)
theorem job_injective : Function.Injective job := by decide
/-- and from which device each is paid. -/
def payer : Fin 9 → (Dev nD ≃ Dev nD) :=
  fun | 0 => swap 0 | 1 => swap 1 | 2 => swap 2 | 3 => Equiv.refl _ | 4 => Equiv.refl _ | 5 => Equiv.refl _ | 6 => swap 0 | 7 => swap 1 | 8 => swap 2

abbrev ticket (cj : Dev nD × Fin 9) : GSem nD τ sig × ℕ × Fin 3 := (cell (cj.1, (job cj.2).1), 0, (job cj.2).2)
theorem ticket_injective : Function.Injective ticket := by
  rintro ⟨c, j⟩ ⟨c', j'⟩ h
  have h1 : (c, (job j).1) = (c', (job j').1) := cell_injective (congrArg Prod.fst h)
  have h2 : (job j).2 = (job j').2 := congrArg (fun x => x.2.2) h
  have h3 : j = j' := job_injective (Prod.ext (congrArg Prod.snd h1) h2)
  have h4 : c = c' := congrArg Prod.fst h1
  rw [h3, h4]
def tickets : Finset (GSem nD τ sig × ℕ × Fin 3) := Finset.univ.map ⟨ticket, ticket_injective⟩

def u₀ : UU := (initOf (Pipeline.cells cfgs cellOf_inj) (Pipeline.launchToks cfgs cellOf_inj), initOf cells tickets)

/-- The tokens of the duties of device `c`'s own cells, and of the duties device `c` pays. -/
def minted (c : Dev nD) : sProp 𝕄 := bigSep Finset.univ fun j : Fin 9 => dutyTok ER (cell (c, (job j).1)) 0 (job j).2
def payable (c : Dev nD) : sProp 𝕄 := bigSep Finset.univ fun j : Fin 9 => dutyTok ER (cell (payer j c, (job j).1)) 0 (job j).2

def dealt (c : Dev nD) : sProp 𝕄 :=
  iprop((bigSep Finset.univ fun k : Fin 7 => roundState ER (plan m) (cell (c, k)) 0)
    ∗ (bigSep Finset.univ fun k : Fin 7 => iprop(atPos ER (cell (c, k)) 0 ∅ 0 ∗ reached ER (cell (c, k)) 0)) ∗ minted c)

omit [FloatOps F] in
theorem seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem nine (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

theorem deal_out : BI.own (ER (initOf cells tickets)) ⊢ (|==> bigSep Finset.univ (dealt m) : sProp 𝕄) := by
  have hX (Φ : GSem nD τ sig → sProp 𝕄) : bigSep cells Φ = bigSep Finset.univ fun c : Dev nD => bigSep Finset.univ fun k : Fin 7 => Φ (cell (c, k)) := by
    unfold cells; rw [bigSep_map, bigSep_univ_prod]; rfl
  have hT : bigSep tickets (fun x => (dutyTok ER x.1 x.2.1 x.2.2 : sProp 𝕄)) = bigSep Finset.univ fun c : Dev nD => minted c := by
    unfold tickets; rw [bigSep_map, bigSep_univ_prod]; rfl
  iintro HX
  imod (Rounds.fund ER (plan m) cells tickets) $$ HX with ⟨Hst, Hr, Hat, Htok⟩
  imodintro
  ihave Hst' := (Entails.of_eq (hX fun g => roundState ER (plan m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

omit [FloatOps F] in
theorem own_sems (c : Dev nD) : (Pipeline.ownSems0 (Ix := Unit) (Name := ℕ) (U := UU) (Lvl := ℕ) (Val := Elt F) (τ := τ) own c : sProp 𝕄)
    = iprop(semVal (cell (c, 1)) 0 ∗ semVal (cell (c, 2)) 0 ∗ semVal (cell (c, 3)) 0 ∗ semVal (cell (c, 4)) 0 ∗ semVal (cell (c, 5)) 0 ∗ semVal (cell (c, 6)) 0) := by
  rw [Pipeline.ownSems0_eq_of_list c own [0, 1, 2, 3, 4, 5] (by decide) (by decide)]; rfl
omit [FloatOps F] in
theorem bar_sem (c : Dev nD) : (unscopedSems0 c : sProp 𝕄) = semVal (cell (c, 0)) 0 := by
  unfold unscopedSems0; rw [bigSep_eq_bigSepL_of_eq [SemLoc.reg barS] (by decide) (by decide)]; rfl

omit [FloatOps F] in
theorem all_sems (c : Dev nD) :
    iprop(Pipeline.ownSems0 (Ix := Unit) (Name := ℕ) (U := UU) (Lvl := ℕ) (Val := Elt F) (τ := τ) own c ∗ unscopedSems0 c)
      ⊢ (bigSep Finset.univ fun k : Fin 7 => semVal (cell (c, k)) 0 : sProp 𝕄) := by
  rw [own_sems, bar_sem, seven]
  iintro ⟨HO, HB⟩
  isplitl [HB]; · iexact HB
  iexact HO

/-- One device's cells given their invariants. -/
theorem found (c : Dev nD) :
    iprop(Pipeline.ownSems0 (Ix := Unit) (Name := ℕ) (U := UU) (Lvl := ℕ) (Val := Elt F) (τ := τ) own c ∗ unscopedSems0 c ∗ dealt m c)
      ⊢ |={Set.univ}=> iprop((bigSep Finset.univ fun k => iprop(∃ κ : ℕ, cellInv ER (plan m) κ (cell (c, k))))
          ∗ (bigSep Finset.univ fun k => iprop(atPos ER (cell (c, k)) 0 ∅ 0 ∗ reached ER (cell (c, k)) 0)) ∗ minted c) := by
  unfold dealt
  iintro ⟨Hos, Hus, Hst, Hat, Htok⟩
  ihave Hv := (all_sems (F := F) c) $$ [Hos Hus]
  · isplitl [Hos] <;> iassumption
  imod (show iprop((bigSep Finset.univ fun k : Fin 7 => semVal (cell (c, k)) 0) ∗ bigSep Finset.univ fun k : Fin 7 => roundState ER (plan m) (cell (c, k)) 0)
      ⊢ (|={Set.univ}=> bigSep Finset.univ fun k => iprop(∃ κ : ℕ, cellInv ER (plan m) κ (cell (c, k))) : sProp 𝕄) from by
        rw [← bigSep_sep']
        exact (bigSep_mono fun k _ => (Rounds.body_intro ER (plan m) (cell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every duty's token at the device that pays it. -/
theorem hand_over : (bigSep Finset.univ fun c : Dev nD => (minted c : sProp 𝕄)) ⊢ bigSep Finset.univ fun c : Dev nD => payable c := by
  unfold minted payable
  rw [bigSep_univ_comm fun (c : Dev nD) (j : Fin 9) => (dutyTok ER (cell (c, (job j).1)) 0 (job j).2 : sProp 𝕄),
    bigSep_univ_comm fun (c : Dev nD) (j : Fin 9) => (dutyTok ER (cell (payer j c, (job j).1)) 0 (job j).2 : sProp 𝕄)]
  exact bigSep_mono fun j _ => Entails.of_eq (bigSep_univ_equiv (payer j) fun c : Dev nD => (dutyTok ER (cell (c, (job j).1)) 0 (job j).2 : sProp 𝕄))

def placed (c : Dev nD) : sProp 𝕄 := iprop((bigSep Finset.univ fun k : Fin 7 => atPos ER (cell (c, k)) 0 ∅ 0) ∗ payable c)

theorem to_ghost (K : Dev nD × Fin 7 → ℕ) (c : Dev nD) : iprop(records m K ∗ placed c) ⊢ (iprop(∃ K, ghost m K c) : sProp 𝕄) := by
  unfold placed payable ghost
  rw [seven, nine]
  iintro ⟨#HR, Hat, H0, H1, H2, H3, H4, H5, H6, H7, H8⟩
  iexists K
  isplitr; · iexact HR
  isplitl [Hat]; · iexact Hat
  isplitl [H0 H1 H2]
  · isplitl [H0]; · iexact H0
    isplitl [H1]; · iexact H1
    iexact H2
  isplitl [H3 H4 H5]
  · isplitl [H3]; · iexact H3
    isplitl [H4]; · iexact H4
    iexact H5
  isplitl [H6]; · iexact H6
  isplitl [H7]; · iexact H7
  iexact H8

omit [FloatOps F] in
theorem spread {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (plan m) κ (cell (c, k))))
          ∗ (bigSep Finset.univ fun k => iprop(atPos ER (cell (c, k)) 0 ∅ 0 ∗ reached ER (cell (c, k)) 0)) ∗ minted c) : sProp 𝕄)
      ⊢ bigSep Finset.univ fun c => iprop(∃ K, ghost m K c) := by
  rw [bigSep_sep', bigSep_sep', ← bigSep_univ_prod (fun ck : Dev nD × Fin 7 => iprop(∃ κ : ℕ, cellInv ER (plan m) κ (cell ck))),
    bigSep_congr (s := Finset.univ) (fun (c : Dev nD) _ => bigSep_sep' Finset.univ (fun k : Fin 7 => (atPos ER (cell (c, k)) 0 ∅ 0 : sProp 𝕄)) (fun k => reached ER (cell (c, k)) 0)),
    bigSep_sep', ← bigSep_univ_prod (fun ck : Dev nD × Fin 7 => (reached ER (cell ck) 0 : sProp 𝕄))]
  iintro ⟨HI, ⟨Hat, #HR⟩, Htok⟩
  ihave HK := (BI.bigSep_exists_pi Finset.univ (fun (ck : Dev nD × Fin 7) (κ : ℕ) => (cellInv ER (plan m) κ (cell ck) : sProp 𝕄))) $$ HI
  icases HK with ⟨%K, #HI⟩
  ihave Htk := (hand_over (F := F)) $$ Htok
  iapply (spread (R := records m K) fun c _ => to_ghost m K c)
  isplitr
  · unfold records; isplitl; · iexact HI
    iexact HR
  · iapply (Entails.of_eq (bigSep_sep' Finset.univ (fun c : Dev nD => bigSep Finset.univ fun k : Fin 7 => (atPos ER (cell (c, k)) 0 ∅ 0 : sProp 𝕄)) payable).symm)
    isplitl [Hat]; · iexact Hat
    iexact Htk

theorem set_up : (bigSep Finset.univ fun c => iprop(Pipeline.ownSems0 (Ix := Unit) (Name := ℕ) (U := UU) (Lvl := ℕ) (Val := Elt F) (τ := τ) own c ∗ unscopedSems0 c ∗ dealt m c) : sProp 𝕄)
    ⊢ |={Set.univ}=> bigSep Finset.univ fun c => iprop(∃ K, ghost m K c) :=
  ((bigSep_mono fun c _ => found m c).trans (bigSep_fupd _ _)).trans (BI.fupd_mono (regroup m))

/-! ## The credit at launch -/

/-- What all devices together owe a cell through their partners of one round. -/
theorem owed_through (r : Fin 3) (k k' : Fin 7) (a : ℕ) (c : Dev nD) :
    ∑ d : Dev nD, (tallyAt (cell (mate r d, k)) () a : CellTallies nD τ sig Unit) (cell (c, k')) () = if k = k' then a else 0 := by
  have h (d : Dev nD) : (tallyAt (cell (mate r d, k)) () a : CellTallies nD τ sig Unit) (cell (c, k')) () = if d = mate r c then (if k = k' then a else 0) else 0 := by
    rw [tallyAt_apply]
    by_cases hd : d = mate r c
    · subst hd
      rw [mate_mate, if_pos rfl]
      by_cases hk : k = k'
      · subst hk; rw [if_pos ⟨rfl, rfl⟩, if_pos rfl]
      · rw [if_neg hk, if_neg fun h => hk (congrArg Prod.snd (cell_injective h.1)).symm]
    · rw [if_neg hd, if_neg fun h => hd ((mate_eq_iff r d c).mp (congrArg Prod.fst (cell_injective h.1)).symm)]
  rw [Finset.sum_congr rfl fun d _ => h d, Finset.sum_ite_eq' Finset.univ (mate r c), if_pos (Finset.mem_univ _)]

/-- The units that stand against each of the seven cells at launch. -/
abbrev standing : Fin 7 → ℕ := fun | 0 => 3 | 1 => 0 | 2 => 0 | 3 => 0 | 4 => credit 0 | 5 => credit 1 | 6 => credit 2

theorem launch_at (c : Dev nD) (k : Fin 7) :
    tallyOn (cell (c, k)) (launchCredit (Pipeline.owing sig0) 0 (cell (c, k))) = (tallyAt (cell (c, k)) () (standing k) : CellTallies nD τ sig Unit) := by
  unfold tallyAt; refine congrArg _ (Finsupp.ext fun u => ?_); cases u
  rw [Pipeline.launchCredit_owing, Finsupp.single_eq_same]
  have h (d : Dev nD) : sig0 d (cell (c, k)) () =
      ((((((tallyAt (cell (mate 2 d, 6)) () (credit 2) : CellTallies nD τ sig Unit) (cell (c, k)) () + (tallyAt (cell (mate 1 d, 5)) () (credit 1) : CellTallies nD τ sig Unit) (cell (c, k)) ())
        + (tallyAt (cell (mate 0 d, 4)) () (credit 0) : CellTallies nD τ sig Unit) (cell (c, k)) ()) + (tallyAt (cell (mate 2 d, 0)) () 1 : CellTallies nD τ sig Unit) (cell (c, k)) ())
        + (tallyAt (cell (mate 1 d, 0)) () 1 : CellTallies nD τ sig Unit) (cell (c, k)) ()) + (tallyAt (cell (mate 0 d, 0)) () 1 : CellTallies nD τ sig Unit) (cell (c, k)) ()) := by
    unfold sig0 sig1 sig2 due0 due1 due2
    simp only [Pi.add_apply, Finsupp.add_apply]
  rw [Finset.sum_congr rfl fun d _ => h d]
  simp only [Finset.sum_add_distrib, owed_through]
  match k with
  | 0 => rfl
  | 1 => rfl
  | 2 => rfl
  | 3 => rfl
  | 4 => exact (Nat.zero_add _)
  | 5 => exact (Nat.zero_add _)
  | 6 => rfl

omit [FloatOps F] in
theorem credit_in (c : Dev nD) : iprop((Pipeline.launchCred sig0 c : sProp 𝕄) ∗ levAts L lv) ⊢ credits c := by
  have h : (Pipeline.launchCred sig0 c : sProp 𝕄) ⊢ bigSep Finset.univ fun k : Fin 7 => cred (tallyAt (cell (c, k)) () (standing k)) := by
    unfold Pipeline.launchCred
    refine (bigSep_subset (Finset.subset_univ (Finset.univ.map ⟨chan, chan_injective⟩))).trans ?_
    rw [bigSep_map]
    exact bigSep_mono fun k _ => Entails.of_eq (congrArg cred (launch_at c k))
  unfold credits
  iintro ⟨H, HL⟩
  ihave H := (h.trans (Entails.of_eq (seven _))) $$ H
  icases H with ⟨H0, -, -, -, H4, H5, H6⟩
  isplitl [H0]; · iexact H0
  isplitl [H4 H5 H6]
  · isplitl [H4]; · iexact H4
    isplitl [H5]; · iexact H5
    iexact H6
  iexact HL

/-! ## Into and out of the region -/

/-- The array the kernel never touches. -/
def idle (c : Dev nD) : sProp 𝕄 := ((c : Thread nD τ).loc main_arg1) ↦{fullShare} m ((c : Thread nD τ).loc main_arg1)

theorem enter (c : Dev nD) :
    iprop(Pipeline.unscopedRestP Pipeline.Prefetch.none cfg0.spec c (fun b => m ((c : Thread nD τ).loc b)) ∗ levAts L lv
        ∗ Pipeline.launchCred sig0 c ∗ prngReg c (ρ c) ∗ (∃ K, ghost m K c))
      ⊢ |={Set.univ}=> iprop(start m c ∗ idle m c) := by
  rw [Pipeline.unscopedRestP_none, unscopedRest0_eq]
  unfold start idle
  iintro ⟨HA, Hlev, Hcr, -, HG⟩
  imodintro
  isplitr [HA]
  · isplitl [HG]; · iexact HG
    iapply (credit_in (F := F) c)
    isplitl [Hcr]; · iexact Hcr
    iexact Hlev
  iexact HA

theorem into (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, scopedRest0_eq]
  unfold before
  iintro ⟨Hs, -, ⟨%f, Hr⟩⟩
  isplitl [Hs]; · iexact Hs
  iexists f; unfold buf; iexact Hr

theorem out_of (c : Dev nD) :
    (dats m 0 c).Φ (Fin.last cfg0.N) ⊢ iprop(unscopedSems0 c ∗ Pipeline.ownSems0 own c ∗ Pipeline.scopedRest cfg0.spec c) := by
  rw [show (dats m 0 c).Φ (Fin.last cfg0.N) = behind m c from rfl, scopedRest0_eq, own_sems, bar_sem]
  unfold behind zeros buf
  iintro ⟨Hr, H0, Hz⟩
  isplitl [H0]; · iexact H0
  isplitl [Hz]; · iexact Hz
  iexists (gathered m); iexact Hr

/-- No staging semaphore is one of the seven. -/
theorem stage_rank (c : Dev nD) (w : Fin 4) (s : Fin (cfg0.win w).nbuf) : lv ((c : Thread nD τ), SemLoc.dma ((cfg0.win w).sem s)) () = 0 := by
  have h : which (SemLoc.dma ((cfg0.win w).sem s)) = none := by revert w s; decide
  show (match which (SemLoc.dma ((cfg0.win w).sem s)) with | some k => rank k | none => 0) = 0
  rw [h]

theorem waits (c : Dev nD) : (levAts L lv : sProp 𝕄) ⊢ Pipeline.cellsWaits cfgs (dats m) () 0 c :=
  Pipeline.cellsWaits_intro cfgs (dats m) () 0 c fun w s t =>
    mayWait c _ 0 (le_of_eq (stage_rank c w s)) _ (by
      rcases t with ⟨_ | _, ht⟩
      · exact above_sig0 c
      · exact above_zero 0)

/-! ## The run -/

/-- From any memory with all counters zero, every fair execution on the eight devices ends, with each window's array as the
    region leaves it, the router's weights untouched, and every counter at zero. -/
theorem run_main : θ_run defs (onTc (τ := τ) (main (F := F))) ⟨m, fun _ => 0, ρ⟩ (fun r =>
    (∀ c : Dev nD, (∀ w : Fin cfg0.W, r.2.mem ((cfg0.win w).arr.view.loc (c : Thread nD τ)) = (dats m 0 c).arrAt w cfg0.N)
      ∧ r.2.mem ((c : Thread nD τ).loc main_arg1) = m ((c : Thread nD τ).loc main_arg1)) ∧ r.2.sem = fun _ => 0) :=
  Pipeline.θ_run_region_owing_glob_pf (fun p => (cfgs p).toPCfg) (fun p => (cfgs p).toPCfg_adm) (dats m) () cellOf_inj (0 : Fin 1)
    winFacts0.to₀ own_facts (Pipeline.PreFacts.none _) EP defs₀ 𝒱₀ m ρ main
    (hmain := fun _ => rfl)
    (hbody := fun c => (obligation m c).loose) (hne := block_pos0) (harr := arr_whole0) (hstage := stage_whole0) (hshare := share_full m)
    (hdistinct := winFacts0.arr_inj)
    (O₀ := sig0) (howed₀ := fun _ => rfl) (howedN := fun _ => rfl)
    (L := L) (lv := lv) (hL := L_of_ne) (hwaits := waits m)
    (G := dealt m) (G' := fun c => iprop(∃ K, ghost m K c)) (u₀ := u₀)
    (hu₀ := by
      unfold u₀
      iintro Hu
      ihave H := (ownU_pair _ _) $$ Hu
      icases H with ⟨HP, HX⟩
      imod (deal_out m) $$ HX with HG
      imodintro
      isplitl [HP] <;> iassumption)
    (hglob := set_up m)
    (hA := fun _ _ => rfl) (hpf := fun _ k => k.elim0)
    (X := start m) (Y := fun c => unscopedSems0 c) (Z := idle m)
    (hX := enter m ρ) (hin := into m) (hout := out_of m)
    (QY := fun c s => s.mem ((c : Thread nD τ).loc main_arg1) = m ((c : Thread nD τ).loc main_arg1)
      ∧ ∀ sm : SemLoc sig, sm.isScoped .tc = false → s.sem ((c.tc : Thread nD τ), sm) = 0)
    (hY := fun c s' => by
      unfold idle
      iintro ⟨Hu, HA, HSI⟩
      icombine HSI HA gives %hA
      imod (Pipeline.unscopedSems0_read (X := unscopedSems0 c) (c := c) fupd_intro s') $$ [Hu HSI] with ⟨%hs, HSI⟩
      · isplitl [Hu] <;> iassumption
      imodintro
      isplitr
      · ipureintro; exact ⟨Buf.eq_of_forall_mem_univ hA, hs⟩
      iexact HSI)
    (hQ := fun _ h hs => ⟨fun c => ⟨(h c).1, (h c).2.2.1⟩, sem_eq_zero hs fun c => (h c).2.2.2⟩)

/-- The three window arrays that are read keep their contents. -/
theorem array_in (c : Dev nD) (w : Fin 4) (h : w ≠ 3) : (dats m 0 c).arrAt w cfg0.N = m ((cfg0.win w).arr.view.loc (c : Thread nD τ)) := by
  match w with
  | 0 => exact (dats m 0 c).arrAt_in (0 : Fin 4) rfl _
  | 1 => exact (dats m 0 c).arrAt_in (1 : Fin 4) rfl _
  | 2 => exact (dats m 0 c).arrAt_in (2 : Fin 4) rfl _
  | 3 => exact absurd rfl h

/-- The run as the claims read it: arguments unchanged, counters zero. -/
theorem run_frame : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun r h => ⟨fun c =>
    ⟨((h.1 c).1 (0 : Fin 4)).trans (array_in m c 0 (by decide)), (h.1 c).2,
      ((h.1 c).1 (1 : Fin 4)).trans (array_in m c 1 (by decide)), ((h.1 c).1 (2 : Fin 4)).trans (array_in m c 2 (by decide))⟩, h.2⟩) (run_main m ρ)

end Cert.Moe

end
-- ==== Proof.Frames.lean ====
/-
# Frames: every run ends, the arguments unchanged and the counters zero

The kernel's run is stated for any float values (Run.lean). Here it is read once over bit patterns and once over the
extended reals. The reference declares no semaphore, so its counters are zero anyway.
-/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run

@[expose] public section

set_option maxRecDepth 16384

noncomputable section

namespace Cert.Moe

open Idealize.ShloMosaic Idealize.ShloMosaic.TcCoe Idealize.SL.Sem

/-- The two printings of the kernel have one text, so their bodies are one table: label by label. -/
theorem bodies_eq : Cert.Kernel.defs₀ (F := Bits) = Cert.KernelIdeal.defs₀ (F := Bits) := by
  unfold Cert.Kernel.defs₀ Cert.KernelIdeal.defs₀
  refine congrArg Defs.onTc ?_
  funext l a
  match l, a with
  | ⟨0, _⟩, (t, s) => rfl
theorem tables_eq : Cert.Kernel.defs (F := Bits) = Cert.KernelIdeal.defs (F := Bits) :=
  congrArg (Pipeline.defs (Cert.KernelIdeal.pcfgs (F := Bits))) bodies_eq

theorem frame_kernel : Cert.quiescent_Kernel (hKernel := Cert.Kernel.Gen.facts) := fun m ρ _ => by
  rw [tables_eq]
  exact run_frame (F := Bits) m ρ

theorem frame_ideal : Cert.quiescent_KernelIdeal (hKernelIdeal := Cert.KernelIdeal.Gen.facts) := fun m ρ _ => run_frame (F := Ideal) m ρ

theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Moe

end
-- ==== Proof.Counts.lean ====
/-
# Counts: what the kernel's float bookkeeping says, in natural numbers

The kernel marks each token's expert by a one-hot row, counts by a matrix product how many tokens before it go to the same
expert, and drops the token if that count has reached twelve. Over the extended reals all of this is exact. For a list `k`
of the tokens' expert words, `prior k t j` is the count and `Kept k t j` says that token `t` goes to expert `j` and is kept.
Each kept token has a row of its own among the 512 (`slot`); no other token is written to it (`row_unique`).
-/
module

public import proofs.«01_k».proof.Proof.Exchange
public import Idealize.ShloMosaic.Lib.Pointwise

@[expose] public section

set_option maxRecDepth 16384

noncomputable section

namespace Cert.Moe

open Cert.KernelIdeal Cert.KernelIdeal.Gen

open Idealize.ShloMosaic
open Idealize.ShloMosaic.TcCoe

/-! ## Counting -/

/-- How many tokens before `t` name expert `j`. -/
def prior (k : Fin 512 → BitVec 32) (t : Fin 512) (j : Fin 32) : ℕ :=
  (Finset.univ.filter fun u : Fin 512 => u < t ∧ k u = BitVec.ofNat 32 j.val).card

/-- Token `t` names expert `j`, and is among the first twelve to do so. -/
def Kept (k : Fin 512 → BitVec 32) (t : Fin 512) (j : Fin 32) : Prop := k t = BitVec.ofNat 32 j.val ∧ prior k t j < 12

instance (k : Fin 512 → BitVec 32) (t : Fin 512) (j : Fin 32) : Decidable (Kept k t j) := inferInstanceAs (Decidable (_ ∧ _))

theorem word_injective : ∀ i j : Fin 32, BitVec.ofNat 32 i.val = BitVec.ofNat 32 j.val → i = j := by decide +kernel

variable {k : Fin 512 → BitVec 32} {t u : Fin 512} {i j : Fin 32}

theorem Kept.expert (h : Kept k t i) (h' : Kept k t j) : i = j := word_injective _ _ (h.1.symm.trans h'.1)

theorem prior_lt (h : t < u) (ht : k t = BitVec.ofNat 32 j.val) : prior k t j < prior k u j := by
  refine Finset.card_lt_card (Finset.ssubset_iff_of_subset (fun v hv => ?_) |>.2 ⟨t, ?_, ?_⟩)
  · rw [Finset.mem_filter] at hv ⊢
    exact ⟨Finset.mem_univ _, hv.2.1.trans h, hv.2.2⟩
  · exact Finset.mem_filter.2 ⟨Finset.mem_univ _, h, ht⟩
  · rw [Finset.mem_filter]
    exact fun h => absurd h.2.1 (lt_irrefl _)

/-- The row of a token kept by expert `j` with `p` kept before it. -/
def slot (j : Fin 32) (p : ℕ) : ℕ := 64 * (place ⟨j.val / 4, by have := j.isLt; show _ < 8; omega⟩).val + 16 * (j.val % 4) + p

/-- Two tokens kept at one row of one expert group are one token. -/
theorem row_unique (h : Kept k t i) (h' : Kept k u j) (hd : i.val / 4 = j.val / 4)
    (hr : 16 * (i.val % 4) + prior k t i = 16 * (j.val % 4) + prior k u j) : t = u := by
  have h1 := h.2
  have h2 := h'.2
  have hij : i = j := Fin.ext (by omega)
  subst hij
  have hp : prior k t i = prior k u i := by omega
  rcases lt_trichotomy t u with hl | he | hl
  · have := prior_lt hl h.1; omega
  · exact he
  · have := prior_lt hl h'.1; omega

/-! ## The kernel's arrays -/

/-- A one-bit word, converted, is one or zero. -/
theorem bit_real {φ : FTy} (b : BitVec 1) : FloatOps.sitofp (F := Ideal) φ (BitVec.setWidth 32 b) = if b = 1#1 then (1 : EReal) else 0 := by
  show (((BitVec.setWidth 32 b).toInt : ℝ) : EReal) = _
  rcases BitVec.eq_zero_or_eq_one b with rfl | rfl
  · rw [if_neg (by decide), show (BitVec.setWidth 32 0#1).toInt = 0 by decide]; simp
  · rw [if_pos rfl, show (BitVec.setWidth 32 1#1).toInt = 1 by decide]; simp

theorem cmpi_eq_one {w : ℕ} (a b : BitVec w) : IntOp.cmpi .eq a b = 1#1 ↔ a = b := by
  by_cases h : a = b
  · subst h; exact ⟨fun _ => rfl, fun _ => by show BitVec.ofBool (a == a) = 1#1; rw [beq_self_eq_true]; rfl⟩
  · refine ⟨fun h' => ?_, fun h' => absurd h' h⟩
    have h'' : BitVec.ofBool (a == b) = 1#1 := h'
    rw [beq_eq_false_iff_ne.2 h] at h''
    exact absurd h'' (by decide)
theorem ofBool_eq_one (p : Prop) [Decidable p] : BitVec.ofBool (decide p) = 1#1 ↔ p := by
  by_cases h : p <;> simp [h]
theorem andi_eq_one (a b : BitVec 1) : IntOp.andi a b = 1#1 ↔ a = 1#1 ∧ b = 1#1 := by revert a b; decide
theorem before_word : ∀ t u : Fin 512, IntOp.cmpi .slt (BitVec.ofNat 32 u.val) (BitVec.ofNat 32 t.val) = 1#1 ↔ u < t := by
  intro t u
  have h : ∀ v : Fin 512, (BitVec.ofNat 32 v.val).toInt = (v.val : ℤ) := by decide +kernel
  show BitVec.ofBool (decide ((BitVec.ofNat 32 u.val).toInt < (BitVec.ofNat 32 t.val).toInt)) = 1#1 ↔ _
  rw [ofBool_eq_one, h, h]
  exact Int.ofNat_lt

/-- A sum of reals, read in the extended reals. -/
theorem coe_sum {ι : Type} (s : Finset ι) (f : ι → ℝ) : ∑ i ∈ s, ((f i : ℝ) : EReal) = ((∑ i ∈ s, f i : ℝ) : EReal) := by
  classical
  induction s using Finset.induction_on with
  | empty => rw [Finset.sum_empty, Finset.sum_empty]; rfl
  | insert a s ha ih => rw [Finset.sum_insert ha, Finset.sum_insert ha, ih, EReal.coe_add]

/-- A small natural, converted to a word. -/
theorem fptosi_nat (n : ℕ) (h : n < 512) : (FloatOps.fptosi (F := Ideal) (φ := .f32) 32 ((n : ℝ) : EReal)) = BitVec.ofNat 32 n := by
  show BitVec.ofInt 32 (max _ (min _ (if (0 : ℝ) ≤ (n : ℝ) then ⌊(n : ℝ)⌋ else ⌈(n : ℝ)⌉))) = _
  rw [if_pos (Nat.cast_nonneg n), Int.floor_natCast]
  have e1 : min ((2 ^ (32 - 1) : ℕ) - 1 : ℤ) (n : ℤ) = n := min_eq_right (by norm_num; omega)
  have e2 : max (-(2 ^ (32 - 1) : ℕ) : ℤ) (n : ℤ) = n := max_eq_right (by have : (0 : ℤ) ≤ n := Int.natCast_nonneg n; norm_num)
  rw [e1, e2]
  exact BitVec.ofInt_natCast 32 n

/-- A sum over experts in which only one expert can differ from zero. -/
theorem sum_one_expert (j : Fin 32) (f : Fin 32 → EReal) (h : ∀ i, i ≠ j → f i = 0) : ∑ i, f i = f j :=
  Finset.sum_eq_single j (fun i _ hi => h i hi) (fun h => absurd (Finset.mem_univ _) h)

section Arrays
variable (e : Vec Ideal S512x1 .i32)

/-- The tokens' expert words, as a list. -/
def wordsOf (t : Fin 512) : BitVec 32 := e (ix2 t 0)

theorem cap_real : (cap : Ideal .f32) = ((12 : ℝ) : EReal) := by
  show Ideal.ofBits .f32 0x41400000#32 = _
  simp [Ideal.ofBits, Ideal.ieee, -EReal.coe_mul]; norm_num

theorem oneHot_apply (t : Fin 512) (j : Fin 32) : k0_pay2 (F := Ideal) e (ix2 t j) = if wordsOf e t = BitVec.ofNat 32 j.val then (1 : EReal) else 0 := by
  pointwise [k0_pay2, k0_pay1]
  rw [bit_real]
  exact if_congr (cmpi_eq_one _ _) rfl rfl

theorem count_apply (t : Fin 512) (j : Fin 32) : k0_pay3 (F := Ideal) e (ix2 t j) = ((prior (wordsOf e) t j : ℝ) : EReal) := by
  pointwise [k0_pay3]
  have hs (u : Fin 512) : (FloatOps.sitofp (F := Ideal) FTy.f32 (BitVec.setWidth 32 (IntOp.cmpi CmpIPredicate.slt (BitVec.ofNat 32 u.val) (BitVec.ofNat 32 t.val))) : EReal)
      * k0_pay2 (F := Ideal) e (ix2 u j) = ((if u < t ∧ wordsOf e u = BitVec.ofNat 32 j.val then (1 : ℝ) else 0 : ℝ) : EReal) := by
    rw [bit_real, oneHot_apply, if_congr (before_word t u) rfl rfl]
    by_cases h1 : u < t <;> by_cases h2 : wordsOf e u = BitVec.ofNat 32 j.val <;> simp [h1, h2]
  refine (Finset.sum_congr rfl fun u _ => hs u).trans ?_
  rw [coe_sum, Finset.sum_boole]
  rfl

/-- One where the token is kept, zero elsewhere. -/
theorem kept_apply (t : Fin 512) (j : Fin 32) : k0_pay4 (F := Ideal) (k0_pay2 e) (k0_pay3 e) cap (ix2 t j) = if Kept (wordsOf e) t j then (1 : EReal) else 0 := by
  have hc : (k0_pay3 (F := Ideal) e (ix2 t j) : EReal) < Ideal.ofBits FTy.f32 1094713344#32 ↔ prior (wordsOf e) t j < 12 := by
    rw [count_apply, show Ideal.ofBits FTy.f32 1094713344#32 = ((12 : ℝ) : EReal) from cap_real, EReal.coe_lt_coe_iff]
    exact_mod_cast Iff.rfl
  pointwise [k0_pay4]
  rw [bit_real, oneHot_apply, if_congr ((ofBool_eq_one _).trans hc) rfl rfl]
  by_cases h1 : wordsOf e t = BitVec.ofNat 32 j.val <;> by_cases h2 : prior (wordsOf e) t j < 12 <;> simp [Kept, h1, h2]

theorem kept_row (t : Fin 512) : k0_pay5 (F := Ideal) (k0_pay2 e) (k0_pay3 e) cap (ix2 t 0) = if ∃ j, Kept (wordsOf e) t j then (1 : EReal) else 0 := by
  pointwise [k0_pay5]
  refine (Finset.sum_congr rfl fun j _ => kept_apply e t j).trans ?_
  by_cases h : ∃ j, Kept (wordsOf e) t j
  · rw [if_pos h]
    obtain ⟨j, hj⟩ := h
    rw [sum_one_expert j _ fun i hi => if_neg fun h' => hi (h'.expert hj), if_pos hj]
  · rw [if_neg h]
    exact Finset.sum_eq_zero fun j _ => if_neg fun h' => h ⟨j, h'⟩

/-- Whether the token is kept, as the kernel tests it. -/
theorem kept_test (t : Fin 512) : (0 : EReal) < k0_pay5 (F := Ideal) (k0_pay2 e) (k0_pay3 e) cap (ix2 t 0) ↔ ∃ j, Kept (wordsOf e) t j := by
  rw [kept_row]
  by_cases h : ∃ j, Kept (wordsOf e) t j
  · rw [if_pos h]; exact ⟨fun _ => h, fun _ => zero_lt_one⟩
  · rw [if_neg h]; exact ⟨fun h' => absurd h' (lt_irrefl _), fun h' => absurd h' h⟩

/-! ## Rows -/

/-- The base row of an expert's sixteen, as the kernel computes it in words. -/
theorem base_word : ∀ j : Fin 32, (IntOp.addi
      (IntOp.muli
        (IntOp.ori
          (IntOp.ori
            (IntOp.andi (IntOp.shrsi ArithUnit.vector (IntOp.shrui ArithUnit.vector (BitVec.ofNat 32 j.val) 2#32) 1#32) 1#32)
            (IntOp.shli ArithUnit.vector (IntOp.andi (IntOp.shrui ArithUnit.vector (BitVec.ofNat 32 j.val) 2#32) 1#32) 1#32))
          (IntOp.andi (IntOp.shrui ArithUnit.vector (BitVec.ofNat 32 j.val) 2#32) 4#32))
        64#32)
      (IntOp.muli (IntOp.andi (BitVec.ofNat 32 j.val) 3#32) 16#32)) = BitVec.ofNat 32 (slot j 0) := by decide +kernel

/-- The row word of a kept token. -/
theorem slot_word {t : Fin 512} {j : Fin 32} (h : Kept (wordsOf e) t j) :
    k0_pay7 (F := Ideal) (k0_pay1 e) (k0_pay2 e) (k0_pay3 e) cap (ix2 t 0) = BitVec.ofNat 32 (slot j (prior (wordsOf e) t j)) := by
  have hp : prior (wordsOf e) t j < 12 := h.2
  have hw : k0_pay1 (F := Ideal) e (ix2 t 0) = BitVec.ofNat 32 j.val := by pointwise [k0_pay1]; exact h.1
  have hs : (∑ i : Fin 32, (k0_pay4 (F := Ideal) (k0_pay2 e) (k0_pay3 e) (Ideal.ofBits FTy.f32 1094713344#32) (ix2 t i) : EReal) * k0_pay3 (F := Ideal) e (ix2 t i))
      = ((prior (wordsOf e) t j : ℝ) : EReal) := by
    have h4 (i : Fin 32) : (k0_pay4 (F := Ideal) (k0_pay2 e) (k0_pay3 e) (Ideal.ofBits FTy.f32 1094713344#32) (ix2 t i) : EReal)
      = if Kept (wordsOf e) t i then (1 : EReal) else 0 := kept_apply e t i
    refine (sum_one_expert j _ fun i hi => ?_).trans ?_
    · rw [h4, if_neg fun h' => hi (h'.expert h)]; exact zero_mul _
    · rw [h4, if_pos h, count_apply]; exact one_mul _
  pointwise [k0_pay7, k0_pay6]
  rw [hw, base_word, hs, fptosi_nat _ (by omega)]
  show BitVec.ofNat 32 _ + BitVec.ofNat 32 _ = _
  rw [← BitVec.ofNat_add]
  rfl

theorem shift_word : ∀ (j : Fin 32) (c : Fin 8), IntOp.shrui ArithUnit.vector (BitVec.ofNat 32 j.val) 2#32 = BitVec.ofNat 32 c.val ↔ j.val / 4 = c.val := by
  decide +kernel

theorem small_word {a b : ℕ} (ha : a < 2 ^ 32) (hb : b < 2 ^ 32) : BitVec.ofNat 32 a = BitVec.ofNat 32 b ↔ a = b := by
  refine ⟨fun h => ?_, fun h => by rw [h]⟩
  have h' := congrArg BitVec.toNat h
  rwa [BitVec.toNat_ofNat, BitVec.toNat_ofNat, Nat.mod_eq_of_lt ha, Nat.mod_eq_of_lt hb] at h'

/-- The row inside the block: the block's first row subtracted, in words. -/
theorem sub_word (b r : ℕ) : IntOp.subi (BitVec.ofNat 32 (64 * b + r)) (Scalar.muli (BitVec.ofNat 32 b) 64#32) = BitVec.ofNat 32 r := by
  show BitVec.ofNat 32 (64 * b + r) - BitVec.ofNat 32 b * BitVec.ofNat 32 64 = _
  rw [← BitVec.ofNat_mul, Nat.mul_comm b 64, BitVec.ofNat_add, BitVec.add_comm, BitVec.add_sub_cancel]

/-- The tokens the device computes. -/
theorem mine_apply (c : Dev nD) (t : Fin 512) (s : Fin 64) : mine (F := Ideal) e c (ix2 t s) = 1#1
    ↔ ∃ j : Fin 32, Kept (wordsOf e) t j ∧ j.val / 4 = c.val := by
  have h5 : (k0_pay5 (F := Ideal) (k0_pay2 e) (k0_pay3 e) (Ideal.ofBits FTy.f32 1094713344#32) (ix2 t 0) : EReal) = if ∃ j, Kept (wordsOf e) t j then 1 else 0 :=
    kept_row e t
  have hw : k0_pay1 (F := Ideal) e (ix2 t 0) = wordsOf e t := by pointwise [k0_pay1]; rfl
  unfold mine
  pointwise [k0_pay9, k0_pay6]
  rw [ofBool_eq_one, h5, bit_real, hw, if_congr (cmpi_eq_one _ _) rfl rfl]
  by_cases h : ∃ j, Kept (wordsOf e) t j
  · obtain ⟨j, hj⟩ := h
    have hsw := shift_word j c
    rw [if_pos ⟨j, hj⟩, ownWord_eq, hj.1, if_congr hsw rfl rfl]
    by_cases hd : j.val / 4 = c.val
    · rw [if_pos hd]
      exact ⟨fun _ => ⟨j, hj, hd⟩, fun _ => by rw [one_mul]; exact zero_lt_one⟩
    · rw [if_neg hd]
      refine ⟨fun h' => absurd h' ?_, fun ⟨i, hi, hd'⟩ => absurd ?_ hd⟩
      · rw [mul_zero]; exact lt_irrefl _
      · rw [hj.expert hi]; exact hd'
  · rw [if_neg h]
    refine ⟨fun h' => absurd h' ?_, fun ⟨i, hi, _⟩ => absurd ⟨i, hi⟩ h⟩
    rw [zero_mul]; exact lt_irrefl _

/-- At which of the device's rows a kept token of its own is put. -/
theorem atRow_apply (c : Dev nD) (t : Fin 512) (s : Fin 64) {j : Fin 32} (h : Kept (wordsOf e) t j) (hd : j.val / 4 = c.val) :
    atRow (F := Ideal) e c (ix2 t s) = 1#1 ↔ 16 * (j.val % 4) + prior (wordsOf e) t j = s.val := by
  have hp : prior (wordsOf e) t j < 12 := h.2
  have hs : s.val < 64 := s.isLt
  have hj : j.val < 32 := j.isLt
  have h7 : k0_pay7 (F := Ideal) (k0_pay1 e) (k0_pay2 e) (k0_pay3 e) (Ideal.ofBits FTy.f32 1094713344#32) (ix2 t 0)
      = BitVec.ofNat 32 (64 * (place c).val + (16 * (j.val % 4) + prior (wordsOf e) t j)) := by
    refine (slot_word e h).trans (congrArg _ ?_)
    unfold slot
    rw [show (⟨j.val / 4, by show _ < 8; omega⟩ : Dev nD) = c from Fin.ext hd]
    omega
  unfold atRow
  pointwise [k0_pay8]
  rw [cmpi_eq_one, h7, placeWord_eq, sub_word, small_word (by omega) (by omega)]

/-- The tokens the device computes, at their rows of its block. -/
theorem own_row (c : Dev nD) (t : Fin 512) (s : Fin 64) : IntOp.andi (atRow (F := Ideal) e c (ix2 t s)) (mine (F := Ideal) e c (ix2 t s)) = 1#1
    ↔ ∃ j : Fin 32, Kept (wordsOf e) t j ∧ j.val / 4 = c.val ∧ 16 * (j.val % 4) + prior (wordsOf e) t j = s.val := by
  rw [andi_eq_one, mine_apply]
  constructor
  · rintro ⟨h1, j, hj, hd⟩
    exact ⟨j, hj, hd, (atRow_apply e c t s hj hd).1 h1⟩
  · rintro ⟨j, hj, hd, hs⟩
    exact ⟨(atRow_apply e c t s hj hd).2 hs, j, hj, hd⟩

/-- The row each kept token's result is read off. -/
theorem marks_apply (t s : Fin 512) : (marks (F := Ideal) e (ix2 t s) : EReal)
    = if ∃ j : Fin 32, Kept (wordsOf e) t j ∧ slot j (prior (wordsOf e) t j) = s.val then 1 else 0 := by
  have h5 : (0 : EReal) < k0_pay5 (F := Ideal) (k0_pay2 e) (k0_pay3 e) (Ideal.ofBits FTy.f32 1094713344#32) (ix2 t 0) ↔ ∃ j, Kept (wordsOf e) t j :=
    kept_test e t
  unfold marks
  pointwise [k0_pay16]
  rw [bit_real]
  refine if_congr ?_ rfl rfl
  rw [andi_eq_one, cmpi_eq_one, ofBool_eq_one, h5]
  have hs : s.val < 512 := s.isLt
  have hw (j : Fin 32) (hj : Kept (wordsOf e) t j) : k0_pay7 (F := Ideal) (k0_pay1 e) (k0_pay2 e) (k0_pay3 e) (Ideal.ofBits FTy.f32 1094713344#32) (ix2 t 0)
      = BitVec.ofNat 32 s.val ↔ slot j (prior (wordsOf e) t j) = s.val := by
    have hb : slot j (prior (wordsOf e) t j) < 2 ^ 32 := by
      have := hj.2
      have hp : (place ⟨j.val / 4, by have := j.isLt; show _ < 8; omega⟩).val < 8 := (place _).isLt
      unfold slot
      omega
    rw [show k0_pay7 (F := Ideal) (k0_pay1 e) (k0_pay2 e) (k0_pay3 e) (Ideal.ofBits FTy.f32 1094713344#32) (ix2 t 0) = _ from slot_word e hj,
      small_word hb (by omega)]
  constructor
  · rintro ⟨h1, j, hj⟩
    exact ⟨j, hj, (hw j hj).1 h1⟩
  · rintro ⟨j, hj, h1⟩
    exact ⟨(hw j hj).2 h1, j, hj⟩

end Arrays

end Cert.Moe

end
-- ==== Proof.Value.lean ====
/-
# Value: the kernel's result is each kept token's row of its expert's product

Over the extended reals. A device's block of 64 rows holds, at the row of a token kept by one of its four experts, that
token's product with the expert's matrix (`block_kept`); the marks read every kept token's row back out of the 512 gathered
rows, and give zero for the others (`result_apply`). `answer` says this without rows or devices.
-/
module

public import proofs.«01_k».proof.Proof.Counts

@[expose] public section

set_option maxRecDepth 16384

noncomputable section

namespace Cert.Moe

open Cert.KernelIdeal Cert.KernelIdeal.Gen

open Idealize.ShloMosaic
open Idealize.ShloMosaic.TcCoe

abbrev S32x256x512 : Shape := ⟨3, ![32, 256, 512]⟩

/-- The experts' matrices come in eight blocks of four. -/
theorem expert_tiles : Layout.Tiles ⟨3, ![4, 256, 512]⟩ ⟨3, ![32, 256, 512]⟩ 0 8 := by decide

/-- Token `t` through expert `j`'s matrix, where `j` keeps it; zero where none does. -/
def answerAt (x : Vec Ideal S512x256 .bf16) (k : Fin 512 → BitVec 32) (W : Vec Ideal S32x256x512 .bf16) (t h : Fin 512) : EReal :=
  ∑ j : Fin 32, if Kept k t j then ∑ d : Fin 256, (x (ix2 t d) : EReal) * W (ix3 j d h) else (0 : EReal)
def answer (x : Vec Ideal S512x256 .bf16) (k : Fin 512 → BitVec 32) (W : Vec Ideal S32x256x512 .bf16) : Vec Ideal S512x512 .bf16 := fun i =>
  answerAt x k W (i 0) (i 1)

theorem answer_kept {x : Vec Ideal S512x256 .bf16} {k : Fin 512 → BitVec 32} {W : Vec Ideal S32x256x512 .bf16} {t : Fin 512} {j : Fin 32}
    (hj : Kept k t j) (h : Fin 512) : answerAt x k W t h = ∑ d : Fin 256, (x (ix2 t d) : EReal) * W (ix3 j d h) :=
  (sum_one_expert j _ fun i hi => if_neg fun h' => hi (Kept.expert (k := k) (t := t) h' hj)).trans (if_pos hj)

theorem answer_dropped {x : Vec Ideal S512x256 .bf16} {k : Fin 512 → BitVec 32} {W : Vec Ideal S32x256x512 .bf16} {t : Fin 512}
    (hn : ¬ ∃ j, Kept k t j) (h : Fin 512) : answerAt x k W t h = (0 : EReal) :=
  Finset.sum_eq_zero fun j _ => if_neg fun h' => hn ⟨j, h'⟩

section Block
variable (x : Vec Ideal S512x256 .bf16) (e : Vec Ideal S512x1 .i32) (w : Fin 4 → Vec Ideal S1x256x512 .bf16) (c : Dev nD)

/-- A device's block, entry by entry: the gathered tokens times the matrix of the row's expert. -/
theorem block_apply (s : Fin 64) (h : Fin 512) : (block (F := Ideal) x e w c s h : EReal)
    = ∑ d : Fin 256, (k0_pay10 (F := Ideal) (atRow (F := Ideal) e c) (mine (F := Ideal) e c) x (ix2 s d) : EReal)
      * w ⟨s.val / 16, by have := s.isLt; omega⟩ (ix3 0 d h) := by
  have hs := s.isLt
  have key (l : Fin 4) (r : Fin 16) (hl : 16 * l.val + r.val < 64) : (piece (F := Ideal) x e w c l (ix2 r h) : EReal)
      = ∑ d : Fin 256, (k0_pay10 (F := Ideal) (atRow (F := Ideal) e c) (mine (F := Ideal) e c) x (ix2 (⟨16 * l.val + r.val, hl⟩ : Fin 64) d) : EReal)
        * w l (ix3 0 d h) := by
    match l with
    | 0 =>
      unfold piece
      pointwise [k0_pay11]
    | 1 =>
      unfold piece
      pointwise [k0_pay12]
    | 2 =>
      unfold piece
      pointwise [k0_pay14, k0_pay13]
    | 3 =>
      unfold piece
      pointwise [k0_pay15]
  refine (key _ _ (by show 16 * (s.val / 16) + s.val % 16 < 64; omega)).trans ?_
  have hse : (⟨16 * (s.val / 16) + s.val % 16, by omega⟩ : Fin 64) = s := Fin.ext (by show 16 * (s.val / 16) + s.val % 16 = s.val; omega)
  refine Finset.sum_congr rfl fun d _ => ?_
  exact congrArg (fun z : Fin 64 => (k0_pay10 (F := Ideal) (atRow (F := Ideal) e c) (mine (F := Ideal) e c) x (ix2 z d) : EReal)
      * w ⟨s.val / 16, by omega⟩ (ix3 0 d h)) hse

/-- The row of a kept token holds that token. -/
theorem gather_kept {t : Fin 512} {j : Fin 32} (hj : Kept (wordsOf e) t j) (hd : j.val / 4 = c.val) (s : Fin 64)
    (hs : 16 * (j.val % 4) + prior (wordsOf e) t j = s.val) (d : Fin 256) :
    (k0_pay10 (F := Ideal) (atRow (F := Ideal) e c) (mine (F := Ideal) e c) x (ix2 s d) : EReal) = x (ix2 t d) := by
  pointwise [k0_pay10]
  have hu (u : Fin 512) (hu : u ≠ t) : ¬ IntOp.andi (atRow (F := Ideal) e c (ix2 u s)) (mine (F := Ideal) e c (ix2 u s)) = 1#1 := by
    rw [own_row]
    rintro ⟨i, hi, hd', hs'⟩
    exact hu (row_unique hi hj (hd'.trans hd.symm) (hs'.trans hs.symm))
  refine (Finset.sum_eq_single t (fun u _ h => ?_) (fun h => absurd (Finset.mem_univ _) h)).trans ?_
  · rw [bit_real, if_neg (hu u h)]; exact zero_mul _
  · rw [bit_real, if_pos ((own_row e c t s).2 ⟨j, hj, hd, hs⟩)]; exact one_mul _

/-- The block at a kept token's row: the token through its expert's matrix. -/
theorem block_kept {t : Fin 512} {j : Fin 32} (hj : Kept (wordsOf e) t j) (hd : j.val / 4 = c.val) (s : Fin 64)
    (hs : 16 * (j.val % 4) + prior (wordsOf e) t j = s.val) (h : Fin 512) :
    (block (F := Ideal) x e w c s h : EReal) = ∑ d : Fin 256, (x (ix2 t d) : EReal) * w ⟨j.val % 4, Nat.mod_lt _ (by decide)⟩ (ix3 0 d h) := by
  have hp := hj.2
  rw [block_apply]
  refine Finset.sum_congr rfl fun d _ => ?_
  rw [gather_kept x e c hj hd s hs d]
  have hl : (⟨s.val / 16, by have := s.isLt; omega⟩ : Fin 4) = ⟨j.val % 4, Nat.mod_lt _ (by decide)⟩ :=
    Fin.ext (by show s.val / 16 = j.val % 4; omega)
  rw [hl]

end Block

variable (m : (ℓ : Loc nD τ sig) → Buf (Elt Ideal) ℓ)

theorem lowHalf_apply (s : Fin 256) (h : Fin 512) : lowHalf m (ix2 s h) = gathered m (ix2 (⟨s.val, by have := s.isLt; omega⟩ : Fin 512) h) := by
  show gathered m _ = _
  refine congrArg (gathered m) ?_
  funext a
  match a with
  | 0 => exact Fin.ext (by show 0 + 1 * s.val = s.val; omega)
  | 1 => exact Fin.ext (by show 0 + 1 * h.val = h.val; omega)
theorem highHalf_apply (s : Fin 256) (h : Fin 512) : highHalf m (ix2 s h) = gathered m (ix2 (⟨256 + s.val, by have := s.isLt; omega⟩ : Fin 512) h) := by
  show gathered m _ = _
  refine congrArg (gathered m) ?_
  funext a
  match a with
  | 0 => exact Fin.ext (by show 256 + 1 * s.val = 256 + s.val; omega)
  | 1 => exact Fin.ext (by show 0 + 1 * h.val = h.val; omega)

/-- The result of a device: the marks times all 512 rows, whichever half came first. -/
theorem result_sum (c : Dev nD) (t h : Fin 512) : (result m c (ix2 t h) : EReal)
    = ∑ s : Fin 512, (marks (F := Ideal) (experts m c) (ix2 t s) : EReal) * gathered m (ix2 s h) := by
  rw [Fin.sum_univ_two_halves 256 256 rfl]
  unfold result
  split
  · pointwise [k0_pay19, k0_pay17]
    simp only [lowHalf_apply, highHalf_apply]
  · pointwise [k0_pay20, k0_pay18]
    simp only [lowHalf_apply, highHalf_apply]
    exact add_comm _ _

/-! ## What a device is handed -/

theorem tokens_eq (c : Dev nD) : tokens m c = m ((c : Thread nD τ).loc main_arg0) := by
  funext i
  refine congrArg (m ((c : Thread nD τ).loc main_arg0)) ?_
  funext a
  match a with
  | 0 => exact Fin.ext (by show 0 + 1 * (i 0).val = (i 0).val; omega)
  | 1 => exact Fin.ext (by show 0 + 1 * (i 1).val = (i 1).val; omega)
theorem experts_eq (c : Dev nD) : experts m c = m ((c : Thread nD τ).loc main_arg2) := by
  funext i
  refine congrArg (m ((c : Thread nD τ).loc main_arg2)) ?_
  funext a
  match a with
  | 0 => exact Fin.ext (by show 0 + 1 * (i 0).val = (i 0).val; omega)
  | 1 => exact Fin.ext (by show 0 + 1 * (i 1).val = (i 1).val; omega)
theorem mats_eq (c : Dev nD) : mats m c = m ((c : Thread nD τ).loc main_arg3) := by
  funext i
  refine congrArg (m ((c : Thread nD τ).loc main_arg3)) ?_
  funext a
  match a with
  | 0 => exact Fin.ext (by show 0 + 1 * (i 0).val = (i 0).val; omega)
  | 1 => exact Fin.ext (by show 0 + 1 * (i 1).val = (i 1).val; omega)
  | 2 => exact Fin.ext (by show 0 + 1 * (i 2).val = (i 2).val; omega)

theorem mat_apply (c : Dev nD) (l : Fin 4) (d : Fin 256) (h : Fin 512) : mat m c l (ix3 0 d h) = mats m c (ix3 l d h) := by
  match l with
  | 0 | 1 | 2 | 3 =>
    refine congrArg (mats m c) ?_
    funext a
    match a with
    | 0 => rfl
    | 1 => exact Fin.ext (by show 0 + 1 * d.val = d.val; omega)
    | 2 => exact Fin.ext (by show 0 + 1 * h.val = h.val; omega)

/-! ## The result -/

section Whole
variable {x : Vec Ideal S512x256 .bf16} {e : Vec Ideal S512x1 .i32} {W : Vec Ideal S32x256x512 .bf16}
variable (hx : ∀ c : Dev nD, m ((c : Thread nD τ).loc main_arg0) = x) (he : ∀ c : Dev nD, m ((c : Thread nD τ).loc main_arg2) = e)
variable (hW : ∀ c : Dev nD, m ((c : Thread nD τ).loc main_arg3) = Layout.block ⟨3, ![4, 256, 512]⟩ ⟨3, ![32, 256, 512]⟩ 0 8 c W expert_tiles)

include hW in
theorem mat_whole (c : Dev nD) (l : Fin 4) (j : Fin 32) (hj : j.val = 4 * c.val + l.val) (d : Fin 256) (h : Fin 512) :
    mat m c l (ix3 0 d h) = W (ix3 j d h) := by
  rw [mat_apply, mats_eq, hW]
  refine congrArg W ?_
  funext a
  match a with
  | 0 => exact Fin.ext (by show c.val * 4 + l.val = j.val; omega)
  | 1 => rfl
  | 2 => rfl

include hx he hW in
/-- A kept token's row of the gathered rows. -/
theorem gathered_kept {t : Fin 512} {j : Fin 32} (hj : Kept (wordsOf e) t j) (s : Fin 512) (hs : slot j (prior (wordsOf e) t j) = s.val)
    (h : Fin 512) : (gathered m (ix2 s h) : EReal) = ∑ d : Fin 256, (x (ix2 t d) : EReal) * W (ix3 j d h) := by
  have hp := hj.2
  have hj32 := j.isLt
  have hlt : j.val / 4 < 8 := by omega
  have hs : 64 * (place (⟨j.val / 4, hlt⟩ : Dev nD)).val + 16 * (j.val % 4) + prior (wordsOf e) t j = s.val := hs
  have hP : (place (⟨j.val / 4, hlt⟩ : Dev nD)).val < 8 := (place (⟨j.val / 4, hlt⟩ : Dev nD)).isLt
  have key : ∀ (c : Dev nD) (r : Fin 64), c.val = j.val / 4 → r.val = 16 * (j.val % 4) + prior (wordsOf e) t j →
      (block (tokens m c) (experts m c) (mat m c) c r h : EReal) = ∑ d : Fin 256, (x (ix2 t d) : EReal) * W (ix3 j d h) := by
    intro c r hc hr
    rw [tokens_eq, experts_eq, hx, he, block_kept x e _ c hj hc.symm r hr.symm h]
    refine Finset.sum_congr rfl fun d _ => ?_
    rw [mat_whole m hW c ⟨j.val % 4, Nat.mod_lt _ (by decide)⟩ j (by show j.val = 4 * c.val + j.val % 4; omega) d h]
  unfold gathered
  refine key _ _ ?_ ?_
  · have hq : (⟨s.val / 64, by have h : s.val < 512 := s.isLt; show _ < 8; omega⟩ : Dev nD) = place (⟨j.val / 4, hlt⟩ : Dev nD) :=
      Fin.ext (by show s.val / 64 = _; omega)
    exact congrArg Fin.val ((congrArg place hq).trans (place_place _))
  · show s.val % 64 = _
    omega

include hx he hW in
theorem result_apply (c : Dev nD) (t h : Fin 512) : (result m c (ix2 t h) : EReal) = answerAt x (wordsOf e) W t h := by
  rw [result_sum, experts_eq, he]
  by_cases hk : ∃ j, Kept (wordsOf e) t j
  · obtain ⟨j, hj⟩ := hk
    have hlt : slot j (prior (wordsOf e) t j) < 512 := by
      have hp := hj.2
      have hj32 := j.isLt
      have h8 : j.val / 4 < 8 := by omega
      have hP : (place (⟨j.val / 4, h8⟩ : Dev nD)).val < 8 := (place (⟨j.val / 4, h8⟩ : Dev nD)).isLt
      show 64 * (place (⟨j.val / 4, h8⟩ : Dev nD)).val + 16 * (j.val % 4) + prior (wordsOf e) t j < 512
      omega
    rw [answer_kept hj, ← gathered_kept m hx he hW hj ⟨_, hlt⟩ rfl h]
    refine (Finset.sum_eq_single (⟨_, hlt⟩ : Fin 512) (fun s _ hs => ?_) (fun h => absurd (Finset.mem_univ _) h)).trans ?_
    · rw [marks_apply, if_neg]
      · exact zero_mul _
      · rintro ⟨i, hi, hs'⟩
        obtain rfl := Kept.expert hi hj
        exact hs (Fin.ext hs'.symm)
    · rw [marks_apply, if_pos ⟨j, hj, rfl⟩]
      exact one_mul _
  · rw [answer_dropped hk]
    refine Finset.sum_eq_zero fun s _ => ?_
    rw [marks_apply, if_neg (fun ⟨j, hj, _⟩ => hk ⟨j, hj⟩)]
    exact zero_mul _

include hx he hW in
theorem result_eq (c : Dev nD) : result m c = answer x (wordsOf e) W := by
  funext i
  rw [← ix2_eta i]
  exact result_apply m hx he hW c (i 0) (i 1)

end Whole

end Cert.Moe

end
-- ==== Proof.Reference.lean ====
/-
# Reference: its result is the same answer

The reference marks each token's expert, counts the earlier tokens of that expert, keeps the first twelve, multiplies
every token by every expert's matrix and adds up what is kept: `answer` of its arguments (`reference_eq`).
-/
module

public import proofs.«01_k».proof.Proof.Value
public import proofs.«01_k».proof.Proof.Gen.ReferenceIdeal
public import proofs.«01_k».proof.Proof.Gen.ReferenceIdeal.Run
public import Idealize.ShloMosaic.Lib.Pointwise
public import Idealize.ShloMosaic.Lib.Routing.OpsOne
public import Idealize.ShloMosaic.Lib.Tactic.CleanTypes

@[expose] public section

set_option maxRecDepth 16384

noncomputable section

namespace Cert.Moe

open Cert.ReferenceIdeal Cert.ReferenceIdeal.Gen

open Idealize.ShloMosaic
open Idealize.ShloMosaic.TcCoe

/-- A count, summed as words. -/
theorem words_sum {ι : Type} (s : Finset ι) (p : ι → Prop) [DecidablePred p] :
    ∑ i ∈ s, (if p i then 1#32 else 0#32) = BitVec.ofNat 32 (s.filter p).card := by
  classical
  induction s using Finset.induction_on with
  | empty => rfl
  | insert a s ha ih =>
    rw [Finset.sum_insert ha, ih, Finset.filter_insert]
    by_cases h : p a
    · rw [if_pos h, if_pos h, Finset.card_insert_of_notMem (fun h' => ha (Finset.mem_filter.1 h').1), BitVec.ofNat_add, BitVec.add_comm]
    · rw [if_neg h, if_neg h, BitVec.zero_add]

theorem eq_zero_of_ne_one {b : BitVec 1} (h : ¬ b = 1#1) : b = 0#1 := by revert b; decide

/-- Up to token `t`: the tokens before it, and itself. -/
theorem upTo_card (k : Fin 512 → BitVec 32) (t : Fin 512) (j : Fin 32) :
    (Finset.univ.filter fun u : Fin 512 => u ≤ t ∧ k u = BitVec.ofNat 32 j.val).card
      = prior k t j + if k t = BitVec.ofNat 32 j.val then 1 else 0 := by
  by_cases h : k t = BitVec.ofNat 32 j.val
  · rw [if_pos h]
    have hs : (Finset.univ.filter fun u : Fin 512 => u ≤ t ∧ k u = BitVec.ofNat 32 j.val)
        = insert t (Finset.univ.filter fun u : Fin 512 => u < t ∧ k u = BitVec.ofNat 32 j.val) := by
      ext u
      simp only [Finset.mem_filter, Finset.mem_univ, true_and, Finset.mem_insert]
      refine ⟨fun ⟨h1, h2⟩ => (eq_or_lt_of_le h1).imp id fun h3 => ⟨h3, h2⟩, ?_⟩
      rintro (rfl | ⟨h1, h2⟩)
      · exact ⟨le_refl _, h⟩
      · exact ⟨le_of_lt h1, h2⟩
    rw [hs, Finset.card_insert_of_notMem (fun h' => lt_irrefl t (Finset.mem_filter.1 h').2.1)]
    rfl
  · rw [if_neg h, Nat.add_zero]
    unfold prior
    refine congrArg Finset.card (Finset.filter_congr fun u _ => ⟨fun ⟨h1, h2⟩ => ⟨lt_of_le_of_ne h1 ?_, h2⟩, fun ⟨h1, h2⟩ => ⟨le_of_lt h1, h2⟩⟩)
    rintro rfl
    exact h h2

theorem prior_le (k : Fin 512 → BitVec 32) (t : Fin 512) (j : Fin 32) : prior k t j ≤ 512 := (Finset.card_le_univ _).trans (by decide)

theorem under_cap (p : ℕ) (hp : p ≤ 512) : IntOp.cmpi .slt (BitVec.ofNat 32 p) 12#32 = 1#1 ↔ p < 12 := by
  have h : ∀ v : Fin 513, (BitVec.ofNat 32 v.val).toInt = (v.val : ℤ) := by decide +kernel
  show BitVec.ofBool (decide ((BitVec.ofNat 32 p).toInt < (12#32).toInt)) = 1#1 ↔ _
  rw [ofBool_eq_one, h ⟨p, by omega⟩]
  show (p : ℤ) < 12 ↔ _
  omega

section Mask
variable (e : IVec Cert.KernelIdeal.S512x1 32)

/-- Which expert each token asks for, as words; -/
def chosen : IVec S512x32 32 :=
  extui 32 (cmpi .eq (broadcastInDim S512x32 ![0, 1] bcast_S512x1_S512x32_0_1 e) (broadcastInDim S512x32 ![0, 1] bcast_S1x32_S512x32_0_1 (broadcastInDim S1x32 ![1] bcast_S32_S1x32_1 (iotaInDim S32 32 0)))) natLt_1_32
/-- how many tokens up to each one ask for each expert; -/
def running : IVec S512x32 32 :=
  Host.reduceWindow IntOp.addi ![512, 1] ![1, 1] ![511, 0] ![0, 0] (chosen e) (broadcastInDim S_ ![] bcast_S_S_ (constantI S_ 32 0#32)) reduceWindows_S512x32_S512x32_w512s1p511_0_w1s1p0_0 h_S_
/-- and which tokens each expert keeps. -/
def keeps : IVec S512x32 1 :=
  andi (cmpi .eq (chosen e) (broadcastInDim S512x32 ![] bcast_S_S512x32 (constantI S_ 32 1#32)))
    (cmpi .slt (subi (running e) (chosen e)) (broadcastInDim S512x32 ![] bcast_S_S512x32 (constantI S_ 32 12#32)))

theorem chosen_apply (t : Fin 512) (j : Fin 32) : chosen e (ix2 t j) = if wordsOf e t = BitVec.ofNat 32 j.val then 1#32 else 0#32 := by
  pointwise [chosen]
  by_cases hk : wordsOf e t = BitVec.ofNat 32 j.val
  · have hk' : e (ix2 t 0) = BitVec.ofNat 32 j.val := hk
    rw [if_pos hk, (cmpi_eq_one _ _).2 hk']; rfl
  · have hk' : ¬ e (ix2 t 0) = BitVec.ofNat 32 j.val := hk
    rw [if_neg hk, eq_zero_of_ne_one (fun h' => hk' ((cmpi_eq_one _ _).1 h'))]; rfl

theorem running_apply (t : Fin 512) (j : Fin 32) :
    running e (ix2 t j) = BitVec.ofNat 32 (prior (wordsOf e) t j + if wordsOf e t = BitVec.ofNat 32 j.val then 1 else 0) := by
  have h := Routing.cumsum_rows_sum (A := 512) (Am1 := 511) (N := 32) rfl (chosen e) (broadcastInDim S_ ![] bcast_S_S_ (constantI S_ 32 0#32)) rfl
    reduceWindows_S512x32_S512x32_w512s1p511_0_w1s1p0_0 h_S_ t j
  have h' : running e (ix2 t j) = ∑ u : Fin 512, if u ≤ t then chosen e (ix2 u j) else 0 := by
    refine (congrArg (running e) (ix2_eq_valueIdx t j)).trans (h.trans ?_)
    refine Finset.sum_congr rfl fun u _ => ?_
    rw [ix2_eq_valueIdx]
  rw [h', ← upTo_card, ← words_sum]
  refine Finset.sum_congr rfl fun u _ => ?_
  rw [chosen_apply]
  by_cases h1 : u ≤ t
  · rw [if_pos h1]
    exact if_congr ⟨fun h2 => ⟨h1, h2⟩, fun h2 => h2.2⟩ rfl rfl
  · rw [if_neg h1, if_neg (fun h2 => h1 h2.1)]
    rfl

theorem keeps_apply (t : Fin 512) (j : Fin 32) : keeps e (ix2 t j) = 1#1 ↔ Kept (wordsOf e) t j := by
  pointwise [keeps]
  rw [running_apply, chosen_apply]
  by_cases hk : wordsOf e t = BitVec.ofNat 32 j.val
  · rw [if_pos hk, if_pos hk, andi_eq_one, cmpi_eq_one]
    have hs : IntOp.subi (BitVec.ofNat 32 (prior (wordsOf e) t j + 1)) 1#32 = BitVec.ofNat 32 (prior (wordsOf e) t j) := by
      show BitVec.ofNat 32 (prior (wordsOf e) t j + 1) - 1#32 = _
      rw [BitVec.ofNat_add, BitVec.add_sub_cancel]
    rw [hs, under_cap _ (prior_le _ _ _)]
    exact ⟨fun h => ⟨hk, h.2⟩, fun h => ⟨rfl, h.2⟩⟩
  · rw [if_neg hk, if_neg hk, andi_eq_one, cmpi_eq_one]
    exact ⟨fun h => absurd h.1 (by decide), fun h => absurd h.1 hk⟩
end Mask

/-- The reference's result, of its arguments. -/
def referenceOf (x : Vec Ideal Cert.KernelIdeal.S512x256 .bf16) (e : Vec Ideal Cert.KernelIdeal.S512x1 .i32) (W : Vec Ideal Cert.Moe.S32x256x512 .bf16) : Vec Ideal S512x512 .bf16 :=
  truncf .bf16 (Host.reduceAdd (select (broadcastInDim S512x32x512 ![0, 1, 2] bcast_S512x32x1_S512x32x512_0_1_2 (broadcastInDim S512x32x1 ![0, 1] bcast_S512x32_S512x32x1_0_1 (keeps e))) (Host.dotGeneral (F := Ideal) dot_S512x256_S32x256x512_S512x32x512_1_1_0_02_n_n none (extf .f32 x bitsLt_bf16_f32) (extf .f32 W bitsLt_bf16_f32)) (broadcastInDim S512x32x512 ![] bcast_S_S512x32x512 (id (constant S_ .f32 0x00000000#32)))) (constant S_ .f32 0x00000000#32) reducesTo_S512x32x512_S512x512_d1 h_S_) bitsLt_bf16_f32

theorem reference_apply (x : Vec Ideal Cert.KernelIdeal.S512x256 .bf16) (e : Vec Ideal Cert.KernelIdeal.S512x1 .i32) (W : Vec Ideal Cert.Moe.S32x256x512 .bf16)
    (t h : Fin 512) : (referenceOf x e W (ix2 t h) : EReal) = answerAt x (wordsOf e) W t h := by
  pointwise [referenceOf]
  refine Finset.sum_congr rfl fun j _ => ?_
  by_cases hk : Kept (wordsOf e) t j
  · rw [(keeps_apply e t j).2 hk, if_pos hk]
    rfl
  · rw [eq_zero_of_ne_one (fun h' => hk ((keeps_apply e t j).1 h')), if_neg hk]
    exact Ideal.ofBits_zero_f32

theorem reference_eq (x : Vec Ideal Cert.KernelIdeal.S512x256 .bf16) (e : Vec Ideal Cert.KernelIdeal.S512x1 .i32) (W : Vec Ideal Cert.Moe.S32x256x512 .bf16) :
    referenceOf x e W = answer x (wordsOf e) W := by
  funext i
  rw [← ix2_eta i]
  exact reference_apply x e W (i 0) (i 1)

end Cert.Moe

end
-- ==== Proof.Claims.lean ====
/-
# Claims: the kernel computes the reference

The kernel's run leaves `result` in its result array on every device (`array_out`), which is `answer` of the arguments,
and so is the reference's result.
-/
module

public import proofs.«01_k».proof.Defs
public import proofs.«01_k».proof.Proof.Run
public import proofs.«01_k».proof.Proof.Reference

@[expose] public section

set_option maxRecDepth 16384

noncomputable section

namespace Cert.Moe

open Idealize.ShloMosaic Idealize.ShloMosaic.TcCoe Idealize.SL.Sem

section Array
open Cert.KernelIdeal Cert.KernelIdeal.Gen
variable (m : (ℓ : Loc nD τ sig) → Buf (Elt Ideal) ℓ)

/-- The result window is the whole array, so the region leaves `result` in it. -/
theorem array_out (c : Dev nD) : (dats (F := Ideal) m 0 c).arrAt (3 : Fin 4) cfg0.N = result m c := by
  have hi (t : Fin cfg0.N) (i : S512x512.Idx) : ((cfg0.win 3).blk t).view.emb i = i := by
    obtain rfl := fin_N0 t
    funext a
    match a with
    | 0 => exact Fin.ext (by show 0 + 1 * (i 0).val = (i 0).val; omega)
    | 1 => exact Fin.ext (by show 0 + 1 * (i 1).val = (i 1).val; omega)
  refine (dats (F := Ideal) m 0 c).arrAt_eq_of_cover (3 : Fin 4) (result m c) (fun t _ => ?_) (fun i => ⟨t0_0, flush0_3 _, ?_⟩)
  · obtain rfl := fin_N0 t
    have ha : (dats (F := Ideal) m 0 c).after (3 : Fin 4) t0_0 = result m c := rfl
    unfold Pipeline.Dat.flushed
    rw [ha]
    funext i
    exact (congrArg (result m c) (hi t0_0 i)).symm
  · have h := View.emb_mem_set ((cfg0.win 3).blk t0_0).view i
    rw [hi] at h
    exact h

end Array

theorem computes : Cert.algebraic_KernelIdeal_ReferenceIdeal (hKernelIdeal := Cert.KernelIdeal.Gen.facts) (hReferenceIdeal := Cert.ReferenceIdeal.Gen.facts) := by
  intro m g m' g' _ h
  refine ⟨answer (m' (((0 : Dev Cert.ReferenceIdeal.nD).tc : Thread Cert.ReferenceIdeal.nD Cert.ReferenceIdeal.τ).loc Cert.ReferenceIdeal.main_arg0))
      (wordsOf (m' (((0 : Dev Cert.ReferenceIdeal.nD).tc : Thread Cert.ReferenceIdeal.nD Cert.ReferenceIdeal.τ).loc Cert.ReferenceIdeal.main_arg2)))
      (m' (((0 : Dev Cert.ReferenceIdeal.nD).tc : Thread Cert.ReferenceIdeal.nD Cert.ReferenceIdeal.τ).loc Cert.ReferenceIdeal.main_arg3)), ?_, ?_⟩
  · refine (θ_run Cert.KernelIdeal.defs _ _).mono (fun r hr c => ?_) (run_main (F := Ideal) m g)
    have hc := hr.1 c
    refine ⟨?_, ?_, hc.2, ?_, ?_⟩
    · exact ((hc.1 (3 : Fin 4)).trans (array_out m c)).trans
        (result_eq m (fun d => (h d).1) (fun d => (h d).2.2.1) (fun d => (h d).2.2.2) c)
    · exact (hc.1 (0 : Fin 4)).trans (array_in m c 0 (by decide))
    · exact (hc.1 (1 : Fin 4)).trans (array_in m c 1 (by decide))
    · exact (hc.1 (2 : Fin 4)).trans (array_in m c 2 (by decide))
  · refine (θ_run Cert.ReferenceIdeal.defs _ _).mono (fun r hr => ?_) (Cert.ReferenceIdeal.Value.run (F := Ideal) m' g')
    have hc := hr 0
    refine ⟨?_, hc.2⟩
    exact hc.1.trans (reference_eq _ _ _)

end Cert.Moe

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Moe.frame_kernel, Cert.Moe.frame_ideal, Cert.Moe.frame_reference, trivial, Cert.Moe.computes⟩

end Cert.Proof

end
